-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_reverse_rows_scored [hPre_reverse_rows_scored : Cert.Pre_reverse_rows_scored.Facts] (m : (ℓ : Loc Cert.KernelIdeal.nD Cert.KernelIdeal.τ Cert.KernelIdeal.sig) → Buf (Elt Ideal) ℓ) : Prop :=
  ∀ c : Dev Cert.KernelIdeal.nD,
    (Cert.Pre_reverse_rows_scored.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_reverse_rows_scored [hPre_reverse_rows_scored : Cert.Pre_reverse_rows_scored.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_reverse_rows_scored.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_reverse_rows_scored [hKernelIdeal : Cert.KernelIdeal.Facts] [hPre_reverse_rows_scored : Cert.Pre_reverse_rows_scored.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_reverse_rows_scored m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_reverse_rows_scored [hReferenceIdeal : Cert.ReferenceIdeal.Facts] [hPre_reverse_rows_scored : Cert.Pre_reverse_rows_scored.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_reverse_rows_scored m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_reverse_rows_scored [hKernelIdeal : Cert.KernelIdeal.Facts] [hReferenceIdeal : Cert.ReferenceIdeal.Facts] [hPre_reverse_rows_scored : Cert.Pre_reverse_rows_scored.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_reverse_rows_scored m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_reverse_rows_scored : Cert.Pre_reverse_rows_scored.Facts),
    quiescent_Kernel (hKernel := hKernel)
    ∧ quiescent_KernelIdeal (hKernelIdeal := hKernelIdeal)
    ∧ quiescent_KernelIdeal_pre_reverse_rows_scored (hKernelIdeal := hKernelIdeal) (hPre_reverse_rows_scored := hPre_reverse_rows_scored)
    ∧ quiescent_ReferenceIdeal (hReferenceIdeal := hReferenceIdeal)
    ∧ quiescent_ReferenceIdeal_pre_reverse_rows_scored (hReferenceIdeal := hReferenceIdeal) (hPre_reverse_rows_scored := hPre_reverse_rows_scored)
    ∧ preserves_Kernel_KernelIdeal
    ∧ algebraic_KernelIdeal_ReferenceIdeal_pre_reverse_rows_scored (hKernelIdeal := hKernelIdeal) (hReferenceIdeal := hReferenceIdeal) (hPre_reverse_rows_scored := hPre_reverse_rows_scored)
-- ==== Pre_reverse_rows_scored.lean ====
abbrev S64x6146x204 : Shape := ⟨3, ![64, 6146, 204]⟩
abbrev S64x2048 : Shape := ⟨2, ![64, 2048]⟩
abbrev S64x2048x204 : Shape := ⟨3, ![64, 2048, 204]⟩
abbrev S_ : Shape := ⟨0, ![]⟩

class Facts : Prop where
  slicesBy_S64x6146x204_S64x2048x204_0s1_2s3_0s1 : S64x6146x204.SlicesBy (![0, 2, 0] : Fin 3 → Nat) ![1, 3, 1] S64x2048x204
  reducesTo_S64x2048x204_S64x2048_d2 : S64x2048x204.ReducesTo [2] S64x2048
  h_S_ : 0 < S_.numel
  bcast_S_S64x2048 : S_.BroadcastsInDim S64x2048 (![] : Fin 0 → Fin S64x2048.rank)

variable [Facts]

def fn {F : FTy → Type} [FloatOps F] (main_arg0 : FVec F S64x6146x204 .f32) (main_arg1 : FVec F S64x2048 .f32) (main_arg2 : FVec F S64x2048 .f32) (main_arg3 : IVec S64x2048 32) : IVec S64x2048 1 :=
  let main_v0 : FVec F S64x2048x204 .f32 := (Host.slice S64x2048x204 ![0, 2, 0] ![1, 3, 1] · slicesBy_S64x6146x204_S64x2048x204_0s1_2s3_0s1) main_arg0
  let main_cst : FVec F S_ .f32 := constant S_ .f32 0xFF800000#32
  let main_v1 : FVec F S64x2048 .f32 := (fun x v => Host.reduce FloatOps.maximumf x v reducesTo_S64x2048x204_S64x2048_d2 h_S_) main_v0 main_cst
  let main_c : IVec S_ 32 := constantI S_ 32 0#32
  let main_v2 : IVec S64x2048 32 := broadcastInDim S64x2048 ![] bcast_S_S64x2048 main_c
  let main_v3 : IVec S64x2048 1 := cmpi .eq main_arg3 main_v2
  let main_c_0 : IVec S_ 32 := constantI S_ 32 1#32
  let main_v4 : IVec S64x2048 32 := broadcastInDim S64x2048 ![] bcast_S_S64x2048 main_c_0
  let main_v5 : IVec S64x2048 1 := cmpi .eq main_arg3 main_v4
  let main_v6 : IVec S64x2048 1 := ori main_v3 main_v5
  let main_v7 : FVec F S64x2048 .f32 := Host.absf main_v1
  let main_cst_1 : FVec F S_ .f32 := constant S_ .f32 0x7F800000#32
  let main_v8 : FVec F S64x2048 .f32 := broadcastInDim S64x2048 ![] bcast_S_S64x2048 main_cst_1
  let main_v9 : IVec S64x2048 1 := cmpf .olt main_v7 main_v8
  let main_v10 : IVec S64x2048 1 := andi main_v6 main_v9
  let main_c_2 : IVec S_ 32 := constantI S_ 32 203#32
  let main_v11 : IVec S64x2048 32 := broadcastInDim S64x2048 ![] bcast_S_S64x2048 main_c_2
  let main_v12 : IVec S64x2048 1 := cmpi .eq main_arg3 main_v11
  let main_v13 : IVec S64x2048 1 := ori main_v12 main_v10
  main_v13
-- ==== Kernel.lean ====
abbrev S64x6146x204 : Shape := ⟨3, ![64, 6146, 204]⟩
abbrev S64x2048 : Shape := ⟨2, ![64, 2048]⟩
abbrev S204x128 : Shape := ⟨2, ![204, 128]⟩
abbrev S64x2048x1 : Shape := ⟨3, ![64, 2048, 1]⟩
abbrev S64x2048x3 : Shape := ⟨3, ![64, 2048, 3]⟩
abbrev S64x48x128 : Shape := ⟨3, ![64, 48, 128]⟩
abbrev S64x4x24x128 : Shape := ⟨4, ![64, 4, 24, 128]⟩
abbrev S1x3072x204 : Shape := ⟨3, ![1, 3072, 204]⟩
abbrev S1x24x128 : Shape := ⟨3, ![1, 24, 128]⟩
abbrev S1x4x24x128 : Shape := ⟨4, ![1, 4, 24, 128]⟩
abbrev S3072x204 : Shape := ⟨2, ![3072, 204]⟩
abbrev S24x128 : Shape := ⟨2, ![24, 128]⟩
abbrev S3072 : Shape := ⟨1, ![3072]⟩
abbrev S3072x1 : Shape := ⟨2, ![3072, 1]⟩
abbrev S3072x128 : Shape := ⟨2, ![3072, 128]⟩
abbrev S4x24x128 : Shape := ⟨3, ![4, 24, 128]⟩
abbrev S_ : Shape := ⟨0, ![]⟩
abbrev S4 : Shape := ⟨1, ![4]⟩
abbrev S1 : Shape := ⟨1, ![1]⟩

abbrev nBuf : Space → Nat
  | .hbm => 28
  | .vmem => 7
  | .smem => 0
  | _ => 0

abbrev bufTy : (tb : Table) → Fin (tcTables nBuf tb) → BufTy
  | .hbm, ⟨0, _⟩ => ⟨S64x6146x204, .f32⟩
  | .hbm, ⟨1, _⟩ => ⟨S64x2048, .f32⟩
  | .hbm, ⟨2, _⟩ => ⟨S64x2048, .f32⟩
  | .hbm, ⟨3, _⟩ => ⟨S64x2048, .i32⟩
  | .hbm, ⟨4, _⟩ => ⟨S204x128, .f32⟩
  | .hbm, ⟨5, _⟩ => ⟨S64x2048, .f32⟩
  | .hbm, ⟨6, _⟩ => ⟨S64x2048x1, .f32⟩
  | .hbm, ⟨7, _⟩ => ⟨S64x2048x1, .f32⟩
  | .hbm, ⟨8, _⟩ => ⟨S64x2048x1, .f32⟩
  | .hbm, ⟨9, _⟩ => ⟨S64x2048x3, .f32⟩
  | .hbm, ⟨10, _⟩ => ⟨S64x48x128, .f32⟩
  | .hbm, ⟨11, _⟩ => ⟨S64x4x24x128, .f32⟩
  | .hbm, ⟨12, _⟩ => ⟨S_, .f32⟩
  | .hbm, ⟨13, _⟩ => ⟨S4, .f32⟩
  | .hbm, ⟨14, _⟩ => ⟨S1, .f32⟩
  | .hbm, ⟨15, _⟩ => ⟨S_, .f32⟩
  | .hbm, ⟨16, _⟩ => ⟨S1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1, .f32⟩
  | .hbm, ⟨22, _⟩ => ⟨S_, .f32⟩
  | .hbm, ⟨23, _⟩ => ⟨S1, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .local _ .vmem, ⟨0, _⟩ => ⟨S1x3072x204, .f32⟩
  | .local _ .vmem, ⟨1, _⟩ => ⟨S1x3072x204, .f32⟩
  | .local _ .vmem, ⟨2, _⟩ => ⟨S1x24x128, .f32⟩
  | .local _ .vmem, ⟨3, _⟩ => ⟨S1x24x128, .f32⟩
  | .local _ .vmem, ⟨4, _⟩ => ⟨S204x128, .f32⟩
  | .local _ .vmem, ⟨5, _⟩ => ⟨S1x4x24x128, .f32⟩
  | .local _ .vmem, ⟨6, _⟩ => ⟨S1x4x24x128, .f32⟩
  | _, _ => ⟨S64x6146x204, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![64, 2], ![false, false]⟩

def k0_cond1 (i : grid0.Coords) : BitVec 1 :=
  let arg1 : BitVec 32 := BitVec.ofNat 32 (i 1).val
  let c0_i32_25 : BitVec 32 := 0#32
  let v103 : BitVec 1 := Scalar.cmpi .eq arg1 c0_i32_25
  let v104 : BitVec 32 := Scalar.extui v103
  let c0_i32_26 : BitVec 32 := 0#32
  let v105 : BitVec 1 := Scalar.cmpi .ne v104 c0_i32_26
  v105

def k0_cond2 (i : grid0.Coords) : BitVec 1 :=
  let arg1 : BitVec 32 := BitVec.ofNat 32 (i 1).val
  let c0_i32_27 : BitVec 32 := 0#32
  let v106 : BitVec 1 := Scalar.cmpi .ne arg1 c0_i32_27
  let v107 : BitVec 32 := Scalar.extui v106
  let c0_i32_28 : BitVec 32 := 0#32
  let v108 : BitVec 1 := Scalar.cmpi .ne v107 c0_i32_28
  v108

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x3072x204 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x24x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S204x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x4x24x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceIdeal.lean ====
abbrev S64x6146x204 : Shape := ⟨3, ![64, 6146, 204]⟩
abbrev S64x2048 : Shape := ⟨2, ![64, 2048]⟩
abbrev S64x6144x204 : Shape := ⟨3, ![64, 6144, 204]⟩
abbrev S64x2048x204 : Shape := ⟨3, ![64, 2048, 204]⟩
abbrev S_ : Shape := ⟨0, ![]⟩
abbrev S131072 : Shape := ⟨1, ![131072]⟩
abbrev S64x2048x1 : Shape := ⟨3, ![64, 2048, 1]⟩
abbrev S64x2048x101 : Shape := ⟨3, ![64, 2048, 101]⟩
abbrev S64x2048x103 : Shape := ⟨3, ![64, 2048, 103]⟩
abbrev S131072x1 : Shape := ⟨2, ![131072, 1]⟩
abbrev S131072x2 : Shape := ⟨2, ![131072, 2]⟩
abbrev S131072x1x1 : Shape := ⟨3, ![131072, 1, 1]⟩
abbrev S1 : Shape := ⟨1, ![1]⟩
abbrev S1x1x1 : Shape := ⟨3, ![1, 1, 1]⟩

abbrev nBuf : Space → Nat
  | .hbm => 166
  | .vmem => 0
  | .smem => 0
  | _ => 0

abbrev hbmTy0_0 (i : Nat) : BufTy := match i % 128 with
  | 0 => ⟨S64x6146x204, .f32⟩
  | 1 => ⟨S64x2048, .f32⟩
  | 2 => ⟨S64x2048, .f32⟩
  | 3 => ⟨S64x2048, .i32⟩
  | 4 => ⟨S64x6144x204, .f32⟩
  | 5 => ⟨S64x2048x204, .f32⟩
  | 6 => ⟨S64x2048x204, .i32⟩
  | 7 => ⟨S_, .f32⟩
  | 8 => ⟨S_, .i32⟩
  | 9 => ⟨S64x2048, .f32⟩
  | 10 => ⟨S64x2048, .i32⟩
  | 11 => ⟨S131072, .i32⟩
  | 12 => ⟨S131072, .f32⟩
  | 13 => ⟨S_, .f32⟩
  | 14 => ⟨S131072, .f32⟩
  | 15 => ⟨S131072, .i1⟩
  | 16 => ⟨S_, .f32⟩
  | 17 => ⟨S131072, .f32⟩
  | 18 => ⟨S131072, .f32⟩
  | 19 => ⟨S_, .f32⟩
  | 20 => ⟨S131072, .f32⟩
  | 21 => ⟨S131072, .f32⟩
  | 22 => ⟨S_, .f32⟩
  | 23 => ⟨S131072, .f32⟩
  | 24 => ⟨S131072, .f32⟩
  | 25 => ⟨S_, .f32⟩
  | 26 => ⟨S131072, .f32⟩
  | 27 => ⟨S131072, .f32⟩
  | 28 => ⟨S131072, .f32⟩
  | 29 => ⟨S131072, .f32⟩
  | 30 => ⟨S131072, .f32⟩
  | 31 => ⟨S131072, .f32⟩
  | 32 => ⟨S131072, .f32⟩
  | 33 => ⟨S_, .f32⟩
  | 34 => ⟨S131072, .f32⟩
  | 35 => ⟨S131072, .i1⟩
  | 36 => ⟨S_, .f32⟩
  | 37 => ⟨S131072, .f32⟩
  | 38 => ⟨S131072, .f32⟩
  | 39 => ⟨S131072, .f32⟩
  | 40 => ⟨S_, .f32⟩
  | 41 => ⟨S131072, .f32⟩
  | 42 => ⟨S131072, .f32⟩
  | 43 => ⟨S131072, .f32⟩
  | 44 => ⟨S_, .f32⟩
  | 45 => ⟨S_, .f32⟩
  | 46 => ⟨S_, .f32⟩
  | 47 => ⟨S_, .f32⟩
  | 48 => ⟨S64x2048x204, .f32⟩
  | 49 => ⟨S64x2048x204, .i32⟩
  | 50 => ⟨S_, .f32⟩
  | 51 => ⟨S_, .i32⟩
  | 52 => ⟨S64x2048, .f32⟩
  | 53 => ⟨S64x2048, .i32⟩
  | 54 => ⟨S131072, .i32⟩
  | 55 => ⟨S131072, .f32⟩
  | 56 => ⟨S_, .f32⟩
  | 57 => ⟨S131072, .f32⟩
  | 58 => ⟨S131072, .f32⟩
  | 59 => ⟨S_, .f32⟩
  | 60 => ⟨S131072, .f32⟩
  | 61 => ⟨S131072, .f32⟩
  | 62 => ⟨S131072, .f32⟩
  | 63 => ⟨S131072, .f32⟩
  | 64 => ⟨S131072, .f32⟩
  | 65 => ⟨S_, .f32⟩
  | 66 => ⟨S131072, .f32⟩
  | 67 => ⟨S131072, .i1⟩
  | 68 => ⟨S_, .f32⟩
  | 69 => ⟨S131072, .f32⟩
  | 70 => ⟨S131072, .f32⟩
  | 71 => ⟨S131072, .f32⟩
  | 72 => ⟨S_, .f32⟩
  | 73 => ⟨S131072, .f32⟩
  | 74 => ⟨S131072, .f32⟩
  | 75 => ⟨S131072, .f32⟩
  | 76 => ⟨S_, .f32⟩
  | 77 => ⟨S_, .f32⟩
  | 78 => ⟨S_, .f32⟩
  | 79 => ⟨S_, .f32⟩
  | 80 => ⟨S_, .f32⟩
  | 81 => ⟨S64x2048x204, .f32⟩
  | 82 => ⟨S_, .f32⟩
  | 83 => ⟨S64x2048, .f32⟩
  | 84 => ⟨S_, .f32⟩
  | 85 => ⟨S64x2048, .f32⟩
  | 86 => ⟨S64x2048, .f32⟩
  | 87 => ⟨S64x2048x1, .f32⟩
  | 88 => ⟨S64x2048x204, .f32⟩
  | 89 => ⟨S64x2048x204, .f32⟩
  | 90 => ⟨S64x2048x204, .f32⟩
  | 91 => ⟨S_, .f32⟩
  | 92 => ⟨S64x2048, .f32⟩
  | 93 => ⟨S64x2048x1, .f32⟩
  | 94 => ⟨S64x2048x204, .f32⟩
  | 95 => ⟨S64x2048x204, .f32⟩
  | 96 => ⟨S64x2048x101, .f32⟩
  | 97 => ⟨S_, .f32⟩
  | 98 => ⟨S64x2048, .f32⟩
  | 99 => ⟨S131072, .f32⟩
  | 100 => ⟨S64x2048x103, .f32⟩
  | 101 => ⟨S_, .f32⟩
  | 102 => ⟨S64x2048, .f32⟩
  | 103 => ⟨S131072, .f32⟩
  | 104 => ⟨S131072x1, .f32⟩
  | 105 => ⟨S131072x1, .f32⟩
  | 106 => ⟨S131072x2, .f32⟩
  | 107 => ⟨S_, .f32⟩
  | 108 => ⟨S131072, .f32⟩
  | 109 => ⟨S_, .f32⟩
  | 110 => ⟨S131072, .f32⟩
  | 111 => ⟨S131072, .f32⟩
  | 112 => ⟨S131072x1, .f32⟩
  | 113 => ⟨S131072x2, .f32⟩
  | 114 => ⟨S131072x2, .f32⟩
  | 115 => ⟨S131072x2, .f32⟩
  | 116 => ⟨S_, .f32⟩
  | 117 => ⟨S131072, .f32⟩
  | 118 => ⟨S131072x1, .f32⟩
  | 119 => ⟨S131072x1, .f32⟩
  | 120 => ⟨S131072x2, .f32⟩
  | 121 => ⟨S131072x2, .f32⟩
  | 122 => ⟨S131072, .i32⟩
  | 123 => ⟨S_, .i32⟩
  | 124 => ⟨S131072, .i32⟩
  | 125 => ⟨S131072, .i1⟩
  | 126 => ⟨S_, .i32⟩
  | 127 => ⟨S_, .i32⟩
  | _ => ⟨S64x6146x204, .f32⟩

abbrev hbmTy0_1 (i : Nat) : BufTy := match i % 128 with
  | 0 => ⟨S131072, .i32⟩
  | 1 => ⟨S131072, .i32⟩
  | 2 => ⟨S131072x1, .i32⟩
  | 3 => ⟨S_, .i32⟩
  | 4 => ⟨S131072x1, .i32⟩
  | 5 => ⟨S131072x1, .i1⟩
  | 6 => ⟨S_, .i32⟩
  | 7 => ⟨S131072x1, .i32⟩
  | 8 => ⟨S131072x1, .i32⟩
  | 9 => ⟨S131072x1, .i32⟩
  | 10 => ⟨S131072x1x1, .i32⟩
  | 11 => ⟨S1, .i32⟩
  | 12 => ⟨S_, .i32⟩
  | 13 => ⟨S131072x1x1, .i32⟩
  | 14 => ⟨S131072x1x1, .i1⟩
  | 15 => ⟨S1x1x1, .i32⟩
  | 16 => ⟨S131072x1x1, .i32⟩
  | 17 => ⟨S131072x1x1, .i1⟩
  | 18 => ⟨S131072x1x1, .i1⟩
  | 19 => ⟨S_, .i1⟩
  | 20 => ⟨S131072x1, .i1⟩
  | 21 => ⟨S131072x1, .f32⟩
  | 22 => ⟨S_, .f32⟩
  | 23 => ⟨S131072x1, .f32⟩
  | 24 => ⟨S131072x1, .f32⟩
  | 25 => ⟨S131072, .f32⟩
  | 26 => ⟨S131072, .f32⟩
  | 27 => ⟨S131072, .f32⟩
  | 28 => ⟨S131072, .f32⟩
  | 29 => ⟨S_, .f32⟩
  | 30 => ⟨S_, .f32⟩
  | 31 => ⟨S131072, .i32⟩
  | 32 => ⟨S_, .i32⟩
  | 33 => ⟨S_, .i32⟩
  | 34 => ⟨S_, .i32⟩
  | 35 => ⟨S_, .i32⟩
  | 36 => ⟨S_, .f32⟩
  | 37 => ⟨S_, .f32⟩
  | _ => ⟨S64x6146x204, .f32⟩

abbrev hbmTy (i : Nat) : BufTy := match i / 128 with
  | 0 => hbmTy0_0 i
  | 1 => hbmTy0_1 i
  | _ => ⟨S64x6146x204, .f32⟩

abbrev bufTy : (tb : Table) → Fin (tcTables nBuf tb) → BufTy
  | .hbm, ⟨i, _⟩ => hbmTy i
  | _, _ => ⟨S64x6146x204, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_cst : Ref sig .tc := ⟨.hbm, 7, rfl⟩
abbrev main_call0_c : Ref sig .tc := ⟨.hbm, 8, rfl⟩
abbrev main_call0_v1_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_call3_v0 : Ref sig .tc := ⟨.hbm, 49, rfl⟩
abbrev main_call3_cst : Ref sig .tc := ⟨.hbm, 50, rfl⟩
abbrev main_call3_c : Ref sig .tc := ⟨.hbm, 51, rfl⟩
abbrev main_call3_v1_0 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_9 : Ref sig .tc := ⟨.hbm, 56, rfl⟩
abbrev main_v34 : Ref sig .tc := ⟨.hbm, 57, rfl⟩
abbrev main_v35 : Ref sig .tc := ⟨.hbm, 58, rfl⟩
abbrev main_cst_10 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_11 : Ref sig .tc := ⟨.hbm, 65, rfl⟩
abbrev main_v41 : Ref sig .tc := ⟨.hbm, 66, rfl⟩
abbrev main_v42 : Ref sig .tc := ⟨.hbm, 67, rfl⟩
abbrev main_cst_12 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_13 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_14 : Ref sig .tc := ⟨.hbm, 76, rfl⟩
abbrev main_v49 : Ref sig .tc := ⟨.hbm, 77, rfl⟩
abbrev main_cst_15 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_16 : Ref sig .tc := ⟨.hbm, 82, rfl⟩
abbrev main_v53 : Ref sig .tc := ⟨.hbm, 83, rfl⟩
abbrev main_cst_17 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_18 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_19 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_20 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_call5_cst : Ref sig .tc := ⟨.hbm, 107, rfl⟩
abbrev main_call5_v0 : Ref sig .tc := ⟨.hbm, 108, rfl⟩
abbrev main_call5_cst_0 : Ref sig .tc := ⟨.hbm, 109, rfl⟩
abbrev main_call5_v1 : Ref sig .tc := ⟨.hbm, 110, rfl⟩
abbrev main_call5_v2 : Ref sig .tc := ⟨.hbm, 111, rfl⟩
abbrev main_call5_v3 : Ref sig .tc := ⟨.hbm, 112, rfl⟩
abbrev main_call5_v4 : Ref sig .tc := ⟨.hbm, 113, rfl⟩
abbrev main_call5_v5 : Ref sig .tc := ⟨.hbm, 114, rfl⟩
abbrev main_call5_v6 : Ref sig .tc := ⟨.hbm, 115, rfl⟩
abbrev main_call5_cst_1 : Ref sig .tc := ⟨.hbm, 116, rfl⟩
abbrev main_call5_v7 : Ref sig .tc := ⟨.hbm, 117, rfl⟩
abbrev main_call5_v8 : Ref sig .tc := ⟨.hbm, 118, rfl⟩
abbrev main_call5_v9 : Ref sig .tc := ⟨.hbm, 119, rfl⟩
abbrev main_call5_v10 : Ref sig .tc := ⟨.hbm, 120, rfl⟩
abbrev main_v73 : Ref sig .tc := ⟨.hbm, 121, rfl⟩
abbrev main_v74 : Ref sig .tc := ⟨.hbm, 122, rfl⟩
abbrev main_c : Ref sig .tc := ⟨.hbm, 123, rfl⟩
abbrev main_v75 : Ref sig .tc := ⟨.hbm, 124, rfl⟩
abbrev main_v76 : Ref sig .tc := ⟨.hbm, 125, rfl⟩
abbrev main_c_21 : Ref sig .tc := ⟨.hbm, 126, rfl⟩
abbrev main_call6_v0 : Ref sig .tc := ⟨.hbm, 127, rfl⟩
abbrev main_call6_v1 : Ref sig .tc := ⟨.hbm, 128, rfl⟩
abbrev main_v77 : Ref sig .tc := ⟨.hbm, 129, rfl⟩
abbrev main_v78 : Ref sig .tc := ⟨.hbm, 130, rfl⟩
abbrev main_call7_c : Ref sig .tc := ⟨.hbm, 131, rfl⟩
abbrev main_call7_v0 : Ref sig .tc := ⟨.hbm, 132, rfl⟩
abbrev main_call7_v1 : Ref sig .tc := ⟨.hbm, 133, rfl⟩
abbrev main_call7_c_0 : Ref sig .tc := ⟨.hbm, 134, rfl⟩
abbrev main_call7_v2 : Ref sig .tc := ⟨.hbm, 135, rfl⟩
abbrev main_call7_v3 : Ref sig .tc := ⟨.hbm, 136, rfl⟩
abbrev main_call7_v4 : Ref sig .tc := ⟨.hbm, 137, rfl⟩
abbrev main_call7_v5 : Ref sig .tc := ⟨.hbm, 138, rfl⟩
abbrev main_call7_c_1 : Ref sig .tc := ⟨.hbm, 139, rfl⟩
abbrev main_call7_c_2 : Ref sig .tc := ⟨.hbm, 140, rfl⟩
abbrev main_call7_v6 : Ref sig .tc := ⟨.hbm, 141, rfl⟩
abbrev main_call7_v7 : Ref sig .tc := ⟨.hbm, 142, rfl⟩
abbrev main_call7_v8 : Ref sig .tc := ⟨.hbm, 143, rfl⟩
abbrev main_call7_v9 : Ref sig .tc := ⟨.hbm, 144, rfl⟩
abbrev main_call7_v10 : Ref sig .tc := ⟨.hbm, 145, rfl⟩
abbrev main_call7_v11 : Ref sig .tc := ⟨.hbm, 146, rfl⟩
abbrev main_call7_c_3 : Ref sig .tc := ⟨.hbm, 147, rfl⟩
abbrev main_call7_v12 : Ref sig .tc := ⟨.hbm, 148, rfl⟩
abbrev main_call7_v13 : Ref sig .tc := ⟨.hbm, 149, rfl⟩
abbrev main_call7_cst : Ref sig .tc := ⟨.hbm, 150, rfl⟩
abbrev main_call7_v14 : Ref sig .tc := ⟨.hbm, 151, rfl⟩
abbrev main_v79 : Ref sig .tc := ⟨.hbm, 152, rfl⟩
abbrev main_v80 : Ref sig .tc := ⟨.hbm, 153, rfl⟩
abbrev main_v81 : Ref sig .tc := ⟨.hbm, 154, rfl⟩
abbrev main_v82 : Ref sig .tc := ⟨.hbm, 155, rfl⟩
abbrev main_v83 : Ref sig .tc := ⟨.hbm, 156, rfl⟩
abbrev main_cst_22 : Ref sig .tc := ⟨.hbm, 157, rfl⟩
abbrev main_v84 : Ref sig .tc := ⟨.hbm, 158, rfl⟩
abbrev main_v85 : Ref sig .tc := ⟨.hbm, 159, rfl⟩
abbrev main_c_23 : Ref sig .tc := ⟨.hbm, 160, rfl⟩
abbrev main_v86 : Ref sig .tc := ⟨.hbm, 161, rfl⟩
abbrev main_c_24 : Ref sig .tc := ⟨.hbm, 162, rfl⟩
abbrev main_v87 : Ref sig .tc := ⟨.hbm, 163, rfl⟩
abbrev main_v88 : Ref sig .tc := ⟨.hbm, 164, rfl⟩
abbrev main_v89 : Ref sig .tc := ⟨.hbm, 165, rfl⟩

abbrev nD : Nat := 1
abbrev τ : Topo := Topo.v7x

variable {F : FTy → Type} [FloatOps F]
-- ==== Proof.Frames.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import Idealize.ShloMosaic.Lib.Claim
public import Idealize.ShloMosaic.Adequacy
public import Idealize.ShloMosaic.Init

/-! The frames: each of the three programs runs, leaves its arguments alone and ends with every semaphore at zero. -/

@[expose] public section

noncomputable section

namespace Cert.Proof

open Idealize.ShloMosaic Idealize.SL.Sem

/-- The shape relations the precondition's operations take. -/
theorem preFacts : Cert.Pre_reverse_rows_scored.Facts where
  slicesBy_S64x6146x204_S64x2048x204_0s1_2s3_0s1 := by decide
  reducesTo_S64x2048x204_S64x2048_d2 := by decide
  h_S_ := by decide
  bcast_S_S64x2048 := by decide

/-- The kernel's frame at the bits. -/
theorem frame_kernel : @Cert.quiescent_Kernel Cert.Kernel.Gen.facts :=
  fun m ρ _ => Cert.Kernel.Gen.frame m ρ

/-- The kernel's frame over the extended reals. -/
theorem frame_kernelIdeal : @Cert.quiescent_KernelIdeal Cert.KernelIdeal.Gen.facts :=
  fun m ρ _ => Cert.KernelIdeal.Gen.frame m ρ

/-- The same frame where the precondition is assumed too. -/
theorem frame_kernelIdeal_pre :
    @Cert.quiescent_KernelIdeal_pre_reverse_rows_scored Cert.KernelIdeal.Gen.facts preFacts :=
  fun m ρ _ => Cert.KernelIdeal.Gen.frame m ρ

/-- The reference's frame: host operations only, and no semaphore is declared. -/
theorem frame_reference : @Cert.quiescent_ReferenceIdeal Cert.ReferenceIdeal.Gen.facts := by
  intro m g _
  hlo_run
  · exact fun _ => ⟨trivial, trivial, trivial, trivial⟩
  · exact sem_eq_zero_of_no_sems (sig := Cert.ReferenceIdeal.sig) (by decide) _

/-- The same frame where the precondition is assumed too. -/
theorem frame_reference_pre :
    @Cert.quiescent_ReferenceIdeal_pre_reverse_rows_scored Cert.ReferenceIdeal.Gen.facts preFacts :=
  fun m g _ => frame_reference m g trivial

end Cert.Proof

end
-- ==== Proof.RefTerm.lean ====
module

public import proofs.«01_k».proof.Proof.Gen.ReferenceIdeal
public import Idealize.ShloMosaic.Lib.Pipeline.ValueKit

/-! The reference's two results, written as stages over whole arrays, in the order the reference computes them. -/

@[expose] public section

noncomputable section

namespace Cert.Proof.Ref

open Idealize.ShloMosaic Cert.ReferenceIdeal Cert.ReferenceIdeal.Gen

/-- The logits the reference keeps: all but the last two rows of each batch entry. -/
def kept (X : FVec Ideal S64x6146x204 .f32) : FVec Ideal S64x6144x204 .f32 :=
  extractStridedSlice S64x6144x204 ![0, 0, 0] X slices_S64x6146x204_S64x6144x204_0_0_0

/-- Every third row of logits, from row 0: the acceleration rows. -/
def accRows (X : FVec Ideal S64x6146x204 .f32) : FVec Ideal S64x2048x204 .f32 :=
  Host.slice S64x2048x204 ![0, 0, 0] ![1, 3, 1] (kept X) slicesBy_S64x6144x204_S64x2048x204_0s1_0s3_0s1

/-- Every third row of logits, from row 1: the steering rows. -/
def steerRows (X : FVec Ideal S64x6146x204 .f32) : FVec Ideal S64x2048x204 .f32 :=
  Host.slice S64x2048x204 ![0, 1, 0] ![1, 3, 1] (kept X) slicesBy_S64x6144x204_S64x2048x204_0s1_1s3_0s1

/-- Every third row of logits, from row 2: the reverse rows. -/
def revRows (X : FVec Ideal S64x6146x204 .f32) : FVec Ideal S64x2048x204 .f32 :=
  Host.slice S64x2048x204 ![0, 2, 0] ![1, 3, 1] (kept X) slicesBy_S64x6144x204_S64x2048x204_0s1_2s3_0s1

/-- The second components of an array of pairs. -/
def seconds {ι α β : Type} (f : ι → α × β) : ι → β := fun j => (f j).2

/-- An entry of the second components. -/
theorem seconds_at {ι α β : Type} (f : ι → α × β) (j : ι) (p : α × β) (h : f j = p) : seconds f j = p.2 := by
  rw [← h]
  rfl

/-- The argmax of each row. -/
def argmaxRows (Y : FVec Ideal S64x2048x204 .f32) : IVec S64x2048 32 :=
  seconds (Host.argReduce reducer_argmax_f32_i32 Y (iotaInDim S64x2048x204 32 2) (constant S_ .f32 0xFF800000#32)
    (constantI S_ 32 0#32) reducesTo_S64x2048x204_S64x2048_d2 h_S_)

/-- The argmax tokens as floats, flat. -/
def tokens (Y : FVec Ideal S64x2048x204 .f32) : FVec Ideal S131072 .f32 :=
  sitofp .f32 (shapeCast S131072 (argmaxRows Y) shapeCasts_S64x2048_S131072)

/-- A float constant over the flat positions. -/
def flatConst (b : BitVec 32) : FVec Ideal S131072 .f32 :=
  broadcastInDim S131072 ![] bcast_S_S131072 (constant S_ .f32 b)

/-- A token as a control value: `token / 100 - 1`. -/
def control (tok : FVec Ideal S131072 .f32) : FVec Ideal S131072 .f32 :=
  subf (Host.divf tok (flatConst 0x42C80000#32)) (flatConst 0x3F800000#32)

/-- The acceleration's prediction: the control value where the token is above 100, else its negative. -/
def accValue (tok : FVec Ideal S131072 .f32) : FVec Ideal S131072 .f32 :=
  select (cmpf .ogt tok (flatConst 0x42C80000#32)) (control tok) (Host.negf (control tok))

/-- The smooth-L1 loss at each position. -/
def smooth (p t : FVec Ideal S131072 .f32) : FVec Ideal S131072 .f32 :=
  select (cmpf .olt (Host.absf (subf p t)) (flatConst 0x3F800000#32))
    (mulf (mulf (flatConst 0x3F000000#32) (subf p t)) (subf p t))
    (subf (Host.absf (subf p t)) (flatConst 0x3F000000#32))

/-- The sum over the flat positions. -/
def total (x : FVec Ideal S131072 .f32) : FVec Ideal S_ .f32 :=
  Host.reduceAdd x (constant S_ .f32 0x00000000#32) reducesTo_S131072_S_d0 h_S_

/-- The mean over the flat positions. -/
def mean (x : FVec Ideal S131072 .f32) : FVec Ideal S_ .f32 :=
  Host.divf (total x) (constant S_ .f32 0x48000000#32)

/-- The first result: the two smooth-L1 means, added. -/
def loss (X : FVec Ideal S64x6146x204 .f32) (A S : FVec Ideal S64x2048 .f32) : FVec Ideal S_ .f32 :=
  addf (mean (smooth (accValue (tokens (accRows X))) (shapeCast S131072 A shapeCasts_S64x2048_S131072)))
    (mean (smooth (control (tokens (steerRows X))) (shapeCast S131072 S shapeCasts_S64x2048_S131072)))

/-- Each row's maximum. -/
def rowMax (Y : FVec Ideal S64x2048x204 .f32) : FVec Ideal S64x2048 .f32 :=
  maximumf (broadcastInDim S64x2048 ![] bcast_S_S64x2048 (constant S_ .f32 0xFF800000#32))
    (Host.reduce FloatOps.maximumf Y (constant S_ .f32 0xFF800000#32) reducesTo_S64x2048x204_S64x2048_d2 h_S_)

/-- A row-indexed array, repeated along the row. -/
def along (v : FVec Ideal S64x2048 .f32) : FVec Ideal S64x2048x204 .f32 :=
  broadcastInDim S64x2048x204 ![0, 1, 2] bcast_S64x2048x1_S64x2048x204_0_1_2
    (broadcastInDim S64x2048x1 ![0, 1] bcast_S64x2048_S64x2048x1_0_1 v)

/-- The exponentials of the rows less their maximum. -/
def expRows (Y : FVec Ideal S64x2048x204 .f32) : FVec Ideal S64x2048x204 .f32 :=
  Host.exp (subf Y (along (rowMax Y)))

/-- The softmax of each row. -/
def softRows (Y : FVec Ideal S64x2048x204 .f32) : FVec Ideal S64x2048x204 .f32 :=
  Host.divf (expRows Y) (along (Host.reduceAdd (expRows Y) (constant S_ .f32 0x00000000#32)
    reducesTo_S64x2048x204_S64x2048_d2 h_S_))

/-- The probability of the first 101 classes, flat, from the rows' probabilities. -/
def pNo (P : FVec Ideal S64x2048x204 .f32) : FVec Ideal S131072 .f32 :=
  shapeCast S131072 (Host.reduceAdd
    (extractStridedSlice S64x2048x101 ![0, 0, 0] P slices_S64x2048x204_S64x2048x101_0_0_0)
    (constant S_ .f32 0x00000000#32) reducesTo_S64x2048x101_S64x2048_d2 h_S_) shapeCasts_S64x2048_S131072

/-- The probability of the other 103 classes, flat. -/
def pYes (P : FVec Ideal S64x2048x204 .f32) : FVec Ideal S131072 .f32 :=
  shapeCast S131072 (Host.reduceAdd
    (extractStridedSlice S64x2048x103 ![0, 0, 101] P slices_S64x2048x204_S64x2048x103_0_0_101)
    (constant S_ .f32 0x00000000#32) reducesTo_S64x2048x103_S64x2048_d2 h_S_) shapeCasts_S64x2048_S131072

/-- A flat array as a column. -/
def column {α : Type} (v : S131072.Idx → α) : S131072x1.Idx → α :=
  broadcastInDim S131072x1 ![0] bcast_S131072_S131072x1_0 v

/-- The two probabilities side by side. -/
def logits (P : FVec Ideal S64x2048x204 .f32) : FVec Ideal S131072x2 .f32 :=
  concatenate S131072x2 1 [⟨S131072x1, column (pNo P)⟩, ⟨S131072x1, column (pYes P)⟩]
    concatenates_S131072x1_S131072x1_S131072x2_d1

/-- A column, repeated over the two classes. -/
def pair {α : Type} (v : S131072x1.Idx → α) : S131072x2.Idx → α :=
  broadcastInDim S131072x2 ![0, 1] bcast_S131072x1_S131072x2_0_1 v

/-- The two logits less their maximum. -/
def shifted (Z : FVec Ideal S131072x2 .f32) : FVec Ideal S131072x2 .f32 :=
  subf Z (pair (column (maximumf (flatConst 0xFF800000#32)
    (Host.reduce FloatOps.maximumf Z (constant S_ .f32 0xFF800000#32) reducesTo_S131072x2_S131072_d1 h_S_))))

/-- The log-softmax of the two logits. -/
def logSoft (Z : FVec Ideal S131072x2 .f32) : FVec Ideal S131072x2 .f32 :=
  subf (shifted Z) (pair (Host.log (column (Host.reduceAdd (Host.exp (shifted Z)) (constant S_ .f32 0x00000000#32)
    reducesTo_S131072x2_S131072_d1 h_S_))))

/-- Where a flat target is not the ignored index 203. -/
def valid (g : IVec S131072 32) : IVec S131072 1 :=
  cmpi .ne g (broadcastInDim S131072 ![] bcast_S_S131072 (constantI S_ 32 203#32))

/-- The targets, with 0 in place of the ignored index. -/
def safe (g : IVec S131072 32) : IVec S131072 32 :=
  select (valid g) g (broadcastInDim S131072 ![] bcast_S_S131072 (constantI S_ 32 0#32))

/-- A column of indices into two classes, a negative one moved up by two. -/
def wrapped (g : IVec S131072x1 32) : IVec S131072x1x1 32 :=
  shapeCast S131072x1x1
    (select (cmpi .slt g (broadcastInDim S131072x1 ![] bcast_S_S131072x1 (constantI S_ 32 0#32)))
      (addi g (broadcastInDim S131072x1 ![] bcast_S_S131072x1 (constantI S_ 32 2#32))) g)
    shapeCasts_S131072x1_S131072x1x1

/-- Where such an index is 0 or 1. -/
def inRange (i : IVec S131072x1x1 32) : IVec S131072x1 1 :=
  Host.reduce IntOp.andi
    (andi (cmpi .sge i (broadcastInDim S131072x1x1 ![] bcast_S_S131072x1x1 (constantI S_ 32 0#32)))
      (cmpi .sle i (broadcastInDim S131072x1x1 ![0, 1, 2] bcast_S1x1x1_S131072x1x1_0_1_2
        (broadcastInDim S1x1x1 ![2] bcast_S1_S1x1x1_2 (constantI S1 32 1#32)))))
    (constantI S_ 1 1#1) reducesTo_S131072x1x1_S131072x1_d2 h_S_

/-- The entry of each row of two that an index column picks. -/
def picked (Z : FVec Ideal S131072x2 .f32) (g : IVec S131072x1 32) : FVec Ideal S131072x1 .f32 :=
  select (inRange (wrapped g))
    (Host.gather gather_S131072x2_S131072x1x1_S131072x1_n_1_0_0_1_2_11 Z (wrapped g))
    (broadcastInDim S131072x1 ![] bcast_S_S131072x1 (constant S_ .f32 0x7FC00000#32))

/-- The negative log-likelihood of each flat target. -/
def nll (Y : FVec Ideal S64x2048x204 .f32) (g : IVec S131072 32) : FVec Ideal S131072 .f32 :=
  Host.negf (shapeCast S131072 (picked (logSoft (logits (softRows Y))) (column (safe g))) shapeCasts_S131072x1_S131072)

/-- The number of targets that count, at least one, as a float. -/
def count (g : IVec S131072 32) : FVec Ideal S_ .f32 :=
  sitofp .f32 (maxsi (Host.reduce IntOp.addi (extui 32 (valid g) natLt_1_32) (constantI S_ 32 0#32)
    reducesTo_S131072_S_d0 h_S_) (constantI S_ 32 1#32))

/-- The flat reverse targets. -/
def flatTargets (G : IVec S64x2048 32) : IVec S131072 32 := shapeCast S131072 G shapeCasts_S64x2048_S131072

/-- The second result: the mean negative log-likelihood over the targets that count. -/
def reverseLoss (X : FVec Ideal S64x6146x204 .f32) (G : IVec S64x2048 32) : FVec Ideal S_ .f32 :=
  Host.divf (total (mulf (nll (revRows X) (flatTargets G)) (uitofp .f32 (valid (flatTargets G)))))
    (count (flatTargets G))

end Cert.Proof.Ref

end
-- ==== Proof.RefSegs.lean ====
module

public import proofs.«01_k».proof.Proof.RefTerm
public import Idealize.ShloMosaic.Lib.Claim

/-!
The reference's operations in order, cut into short segments, and what each segment leaves in the buffers that later
segments read, over any contents of the buffers it starts from.
-/

@[expose] public section

set_option maxRecDepth 16384

noncomputable section

namespace Cert.Proof.Ref

open Idealize.ShloMosaic Idealize.SL.Sem Cert.ReferenceIdeal Cert.ReferenceIdeal.Gen
open Idealize.ShloMosaic.StableHlo

/-- The reference's operations, in order. -/
def line : { ops : List (HloOp τ sig (Elt Ideal)) // ∀ d, IsSeq (main (F := Ideal) d) ops } := by
  apply Subtype.mk
  intro d
  hlo_seq

/-- The operations from number `i` on, `n` of them. -/
def seg (i n : ℕ) : List (HloOp τ sig (Elt Ideal)) := (line.1.drop i).take n

/-- A line of operations cut in two. -/
theorem after_cut (ops : List (HloOp τ sig (Elt Ideal))) (n : ℕ) (V : Valuation τ sig (Elt Ideal)) :
    after ops V = after (ops.drop n) (after (ops.take n) V) := by
  induction n generalizing ops V with
  | zero => rfl
  | succ n ih =>
    cases ops with
    | nil => rfl
    | cons op ops => exact ih ops _

/-- A segment of the line cut in two. -/
theorem after_seg (i n k : ℕ) (V : Valuation τ sig (Elt Ideal)) :
    after (seg i (n + k)) V = after (seg (i + n) k) (after (seg i n) V) := by
  rw [after_cut (seg i (n + k)) n]
  congr 1
  · rw [seg, seg, List.drop_take, List.drop_drop, Nat.add_sub_cancel_left]
  · rw [seg, seg, List.take_take, Nat.min_eq_left (Nat.le_add_right n k)]

variable (V : Valuation τ sig (Elt Ideal))

/-- The kept rows. -/
theorem seg0_v0 : after (seg 0 2) V (Proc.devRef .tc main_v0) =
    kept (V (Proc.devRef .tc main_arg0)) := by
  simp only [seg, line, List.drop, List.take]
  after_results
  rfl

/-- The acceleration rows. -/
theorem seg0_v1 : after (seg 0 2) V (Proc.devRef .tc main_v1) =
    accRows (V (Proc.devRef .tc main_arg0)) := by
  simp only [seg, line, List.drop, List.take]
  after_results
  rfl

/-- Their argmax. -/
theorem seg2_v2 : after (seg 2 5) V (Proc.devRef .tc main_v2) =
    argmaxRows (V (Proc.devRef .tc main_v1)) := by
  simp only [seg, line, List.drop, List.take]
  after_results
  rfl

/-- The acceleration tokens. -/
theorem seg7_v4 : after (seg 7 2) V (Proc.devRef .tc main_v4) =
    (sitofp .f32 (shapeCast S131072 ((V (Proc.devRef .tc main_v2)) : IVec S64x2048 32)
      shapeCasts_S64x2048_S131072) : FVec Ideal S131072 .f32) := by
  simp only [seg, line, List.drop, List.take]
  after_results
  rfl

/-- Where the token is above 100. -/
theorem seg9_v6 : after (seg 9 16) V (Proc.devRef .tc main_v6) =
    cmpf .ogt (V (Proc.devRef .tc main_v4)) (flatConst 0x42C80000#32) := by
  simp only [seg, line, List.drop, List.take]
  after_results
  rfl

/-- The token as a control value. -/
theorem seg9_v10 : after (seg 9 16) V (Proc.devRef .tc main_v10) =
    control (V (Proc.devRef .tc main_v4)) := by
  simp only [seg, line, List.drop, List.take]
  after_results
  rfl

/-- Its negative. -/
theorem seg9_v15 : after (seg 9 16) V (Proc.devRef .tc main_v15) =
    (Host.negf (control (V (Proc.devRef .tc main_v4))) : FVec Ideal S131072 .f32) := by
  simp only [seg, line, List.drop, List.take]
  after_results
  rfl

/-- The choice of the two. -/
theorem seg25_v16 : after (seg 25 1) V (Proc.devRef .tc main_v16) =
    select ((V (Proc.devRef .tc main_v6)) : IVec S131072 1) ((V (Proc.devRef .tc main_v10)) : FVec Ideal S131072 .f32) (V (Proc.devRef .tc main_v15)) := by
  simp only [seg, line, List.drop, List.take]
  after_results
  rfl

/-- Where the difference is below 1. -/
theorem seg26_v21 : after (seg 26 13) V (Proc.devRef .tc main_v21) =
    cmpf .olt (Host.absf (subf (V (Proc.devRef .tc main_v16)) (shapeCast S131072 ((V (Proc.devRef .tc main_arg1)) : FVec Ideal S64x2048 .f32)
      shapeCasts_S64x2048_S131072))) (flatConst 0x3F800000#32) := by
  simp only [seg, line, List.drop, List.take]
  after_results
  rfl

/-- Half the squared difference. -/
theorem seg26_v24 : after (seg 26 13) V (Proc.devRef .tc main_v24) =
    mulf (mulf (flatConst 0x3F000000#32) (subf (V (Proc.devRef .tc main_v16)) (shapeCast S131072 ((V (Proc.devRef .tc main_arg1)) : FVec Ideal S64x2048 .f32)
      shapeCasts_S64x2048_S131072)))
      (subf (V (Proc.devRef .tc main_v16)) (shapeCast S131072 ((V (Proc.devRef .tc main_arg1)) : FVec Ideal S64x2048 .f32)
      shapeCasts_S64x2048_S131072)) := by
  simp only [seg, line, List.drop, List.take]
  after_results
  rfl

/-- The absolute difference less a half. -/
theorem seg26_v26 : after (seg 26 13) V (Proc.devRef .tc main_v26) =
    subf (Host.absf (subf (V (Proc.devRef .tc main_v16)) (shapeCast S131072 ((V (Proc.devRef .tc main_arg1)) : FVec Ideal S64x2048 .f32)
      shapeCasts_S64x2048_S131072))) (flatConst 0x3F000000#32) := by
  simp only [seg, line, List.drop, List.take]
  after_results
  rfl

/-- The choice of the two. -/
theorem seg39_v27 : after (seg 39 1) V (Proc.devRef .tc main_v27) =
    select ((V (Proc.devRef .tc main_v21)) : IVec S131072 1) ((V (Proc.devRef .tc main_v24)) : FVec Ideal S131072 .f32) (V (Proc.devRef .tc main_v26)) := by
  simp only [seg, line, List.drop, List.take]
  after_results
  rfl

/-- The mean. -/
theorem seg40_v29 : after (seg 40 4) V (Proc.devRef .tc main_v29) =
    mean (V (Proc.devRef .tc main_v27)) := by
  simp only [seg, line, List.drop, List.take]
  after_results
  rfl

/-- The steering rows. -/
theorem seg44_v30 : after (seg 44 1) V (Proc.devRef .tc main_v30) =
    (Host.slice S64x2048x204 ![0, 1, 0] ![1, 3, 1]
      ((V (Proc.devRef .tc main_v0)) : FVec Ideal S64x6144x204 .f32) slicesBy_S64x6144x204_S64x2048x204_0s1_1s3_0s1 :
      FVec Ideal S64x2048x204 .f32) := by
  simp only [seg, line, List.drop, List.take]
  after_results

/-- Their argmax. -/
theorem seg45_v31 : after (seg 45 5) V (Proc.devRef .tc main_v31) =
    argmaxRows (V (Proc.devRef .tc main_v30)) := by
  simp only [seg, line, List.drop, List.take]
  after_results
  rfl

/-- The steering tokens. -/
theorem seg50_v33 : after (seg 50 2) V (Proc.devRef .tc main_v33) =
    (sitofp .f32 (shapeCast S131072 ((V (Proc.devRef .tc main_v31)) : IVec S64x2048 32)
      shapeCasts_S64x2048_S131072) : FVec Ideal S131072 .f32) := by
  simp only [seg, line, List.drop, List.take]
  after_results
  rfl

/-- The token as a control value. -/
theorem seg52_v37 : after (seg 52 6) V (Proc.devRef .tc main_v37) =
    control (V (Proc.devRef .tc main_v33)) := by
  simp only [seg, line, List.drop, List.take]
  after_results
  rfl

/-- Where the difference is below 1. -/
theorem seg58_v42 : after (seg 58 13) V (Proc.devRef .tc main_v42) =
    cmpf .olt (Host.absf (subf (V (Proc.devRef .tc main_v37)) (shapeCast S131072 ((V (Proc.devRef .tc main_arg2)) : FVec Ideal S64x2048 .f32)
      shapeCasts_S64x2048_S131072))) (flatConst 0x3F800000#32) := by
  simp only [seg, line, List.drop, List.take]
  after_results
  rfl

/-- Half the squared difference. -/
theorem seg58_v45 : after (seg 58 13) V (Proc.devRef .tc main_v45) =
    mulf (mulf (flatConst 0x3F000000#32) (subf (V (Proc.devRef .tc main_v37)) (shapeCast S131072 ((V (Proc.devRef .tc main_arg2)) : FVec Ideal S64x2048 .f32)
      shapeCasts_S64x2048_S131072)))
      (subf (V (Proc.devRef .tc main_v37)) (shapeCast S131072 ((V (Proc.devRef .tc main_arg2)) : FVec Ideal S64x2048 .f32)
      shapeCasts_S64x2048_S131072)) := by
  simp only [seg, line, List.drop, List.take]
  after_results
  rfl

/-- The absolute difference less a half. -/
theorem seg58_v47 : after (seg 58 13) V (Proc.devRef .tc main_v47) =
    subf (Host.absf (subf (V (Proc.devRef .tc main_v37)) (shapeCast S131072 ((V (Proc.devRef .tc main_arg2)) : FVec Ideal S64x2048 .f32)
      shapeCasts_S64x2048_S131072))) (flatConst 0x3F000000#32) := by
  simp only [seg, line, List.drop, List.take]
  after_results
  rfl

/-- The choice of the two. -/
theorem seg71_v48 : after (seg 71 1) V (Proc.devRef .tc main_v48) =
    select ((V (Proc.devRef .tc main_v42)) : IVec S131072 1) ((V (Proc.devRef .tc main_v45)) : FVec Ideal S131072 .f32) (V (Proc.devRef .tc main_v47)) := by
  simp only [seg, line, List.drop, List.take]
  after_results
  rfl

/-- The mean, added to the acceleration's. -/
theorem seg72_v51 : after (seg 72 5) V (Proc.devRef .tc main_v51) =
    addf ((V (Proc.devRef .tc main_v29)) : FVec Ideal S_ .f32) (mean (V (Proc.devRef .tc main_v48))) := by
  simp only [seg, line, List.drop, List.take]
  after_results
  rfl

/-- The softmax of the reverse rows. -/
theorem seg77_v63 : after (seg 77 15) V (Proc.devRef .tc main_v63) =
    softRows (Host.slice S64x2048x204 ![0, 2, 0] ![1, 3, 1]
      ((V (Proc.devRef .tc main_v0)) : FVec Ideal S64x6144x204 .f32) slicesBy_S64x6144x204_S64x2048x204_0s1_2s3_0s1) := by
  simp only [seg, line, List.drop, List.take]
  after_results
  rfl

/-- The two probabilities side by side. -/
theorem seg92_v72 : after (seg 92 11) V (Proc.devRef .tc main_v72) =
    logits (V (Proc.devRef .tc main_v63)) := by
  simp only [seg, line, List.drop, List.take]
  after_results
  rfl

/-- Their log-softmax. -/
theorem seg103_v73 : after (seg 103 15) V (Proc.devRef .tc main_v73) =
    logSoft (V (Proc.devRef .tc main_v72)) := by
  simp only [seg, line, List.drop, List.take]
  after_results
  simp only [TRef.ofBuf_toBuf]
  rfl

/-- The flat targets. -/
theorem seg118_v74 : after (seg 118 5) V (Proc.devRef .tc main_v74) =
    flatTargets (V (Proc.devRef .tc main_arg3)) := by
  simp only [seg, line, List.drop, List.take]
  after_results
  rfl

/-- Where they are not ignored. -/
theorem seg118_v76 : after (seg 118 5) V (Proc.devRef .tc main_v76) =
    valid (flatTargets (V (Proc.devRef .tc main_arg3))) := by
  simp only [seg, line, List.drop, List.take]
  after_results
  rfl

/-- The zero that replaces an ignored target. -/
theorem seg118_c_21 : after (seg 118 5) V (Proc.devRef .tc main_c_21) =
    (constantI S_ 32 0#32) := by
  simp only [seg, line, List.drop, List.take]
  after_results

/-- The targets with the ignored ones replaced. -/
theorem seg123_v77 : after (seg 123 3) V (Proc.devRef .tc main_v77) =
    select ((V (Proc.devRef .tc main_v76)) : IVec S131072 1) ((V (Proc.devRef .tc main_v74)) : IVec S131072 32)
      (broadcastInDim S131072 ![] bcast_S_S131072 ((V (Proc.devRef .tc main_c_21)) : IVec S_ 32)) := by
  simp only [seg, line, List.drop, List.take]
  after_results
  rfl

/-- As a column. -/
theorem seg126_v78 : after (seg 126 1) V (Proc.devRef .tc main_v78) =
    column ((V (Proc.devRef .tc main_v77)) : IVec S131072 32) := by
  simp only [seg, line, List.drop, List.take]
  after_results
  rfl

/-- As indices into the two classes. -/
theorem seg127_call7_v5 : after (seg 127 8) V (Proc.devRef .tc main_call7_v5) =
    wrapped ((V (Proc.devRef .tc main_v78)) : IVec S131072x1 32) := by
  simp only [seg, line, List.drop, List.take]
  after_results
  simp only [TRef.ofBuf_toBuf]
  rfl

/-- Where they are 0 or 1, one by one. -/
theorem seg135_call7_v11 : after (seg 135 8) V (Proc.devRef .tc main_call7_v11) =
    (andi (cmpi .sge ((V (Proc.devRef .tc main_call7_v5)) : IVec S131072x1x1 32) (broadcastInDim S131072x1x1 ![] bcast_S_S131072x1x1 (constantI S_ 32 0#32)))
      (cmpi .sle ((V (Proc.devRef .tc main_call7_v5)) : IVec S131072x1x1 32) (broadcastInDim S131072x1x1 ![0, 1, 2] bcast_S1x1x1_S131072x1x1_0_1_2
        (broadcastInDim S1x1x1 ![2] bcast_S1_S1x1x1_2 (constantI S1 32 1#32)))) : IVec S131072x1x1 1) := by
  simp only [seg, line, List.drop, List.take]
  after_results
  simp only [TRef.ofBuf_toBuf]
  rfl

/-- Where they are 0 or 1. -/
theorem seg143_call7_v12 : after (seg 143 2) V (Proc.devRef .tc main_call7_v12) =
    (Host.reduce IntOp.andi ((V (Proc.devRef .tc main_call7_v11)) : IVec S131072x1x1 1) (constantI S_ 1 1#1)
      reducesTo_S131072x1x1_S131072x1_d2 h_S_ : IVec S131072x1 1) := by
  simp only [seg, line, List.drop, List.take]
  after_results
  simp only [TRef.ofBuf_toBuf]
  generalize @Host.reduce = f
  rfl

/-- The picked entries. -/
theorem seg145_v79 : after (seg 145 4) V (Proc.devRef .tc main_v79) =
    (select ((V (Proc.devRef .tc main_call7_v12)) : IVec S131072x1 1)
      (Host.gather gather_S131072x2_S131072x1x1_S131072x1_n_1_0_0_1_2_11 ((V (Proc.devRef .tc main_v73)) : FVec Ideal S131072x2 .f32)
        ((V (Proc.devRef .tc main_call7_v5)) : IVec S131072x1x1 32))
      (broadcastInDim S131072x1 ![] bcast_S_S131072x1 (constant S_ .f32 0x7FC00000#32)) :
      FVec Ideal S131072x1 .f32) := by
  simp only [seg, line, List.drop, List.take]
  after_results
  simp only [TRef.ofBuf_toBuf]
  rfl

/-- The masked sum over the count. -/
theorem seg149_v89 : after (seg 149 13) V (Proc.devRef .tc main_v89) =
    Host.divf (total (mulf (Host.negf (shapeCast S131072 ((V (Proc.devRef .tc main_v79)) : FVec Ideal S131072x1 .f32)
      shapeCasts_S131072x1_S131072)) (uitofp .f32 ((V (Proc.devRef .tc main_v76)) : IVec S131072 1))))
      (sitofp .f32 (maxsi (Host.reduce IntOp.addi (extui 32 ((V (Proc.devRef .tc main_v76)) : IVec S131072 1) natLt_1_32) (constantI S_ 32 0#32)
        reducesTo_S131072_S_d0 h_S_) (constantI S_ 32 1#32))) := by
  simp only [seg, line, List.drop, List.take]
  after_results
  rfl

end Cert.Proof.Ref

end
-- ==== Proof.RefRun.lean ====
module

public import proofs.«01_k».proof.Proof.RefSegs

/-! The reference's run: what its two results hold, from what the segments of its line leave. -/

@[expose] public section

set_option maxRecDepth 16384

noncomputable section

namespace Cert.Proof.Ref

open Idealize.ShloMosaic Idealize.SL.Sem Cert.ReferenceIdeal Cert.ReferenceIdeal.Gen
open Idealize.ShloMosaic.StableHlo

variable (V : Valuation τ sig (Elt Ideal))

/-- A segment leaves a buffer alone that none of its operations writes. -/
theorem keep {i n : ℕ} {r : Ref sig .tc} (h : ∀ op ∈ seg i n, Proc.devRef .tc r ∉ op.writes) :
    after (seg i n) V (Proc.devRef .tc r) = V (Proc.devRef .tc r) := after_of_forall_not_mem _ _ h

/-- The acceleration values. -/
theorem acc_value : after (seg 0 26) V (Proc.devRef .tc main_v16)
    = accValue (tokens (accRows (V (Proc.devRef .tc main_arg0)))) := by
  rw [after_seg 0 2 24, after_seg 2 5 19, after_seg 7 2 17, after_seg 9 16 1, seg25_v16, seg9_v6, seg9_v10, seg9_v15,
    seg7_v4, seg2_v2, seg0_v1]
  rfl

/-- The acceleration loss. -/
theorem acc_loss : after (seg 26 18) V (Proc.devRef .tc main_v29)
    = mean (smooth (V (Proc.devRef .tc main_v16))
        (shapeCast S131072 (V (Proc.devRef .tc main_arg1) : FVec Ideal S64x2048 .f32) shapeCasts_S64x2048_S131072)) := by
  rw [after_seg 26 13 5, after_seg 39 1 4, seg40_v29, seg39_v27, seg26_v21, seg26_v24, seg26_v26]
  rfl

/-- The kept rows after the first 44 operations. -/
theorem kept_rows : after (seg 0 44) V (Proc.devRef .tc main_v0) = kept (V (Proc.devRef .tc main_arg0)) := by
  rw [after_seg 0 2 42, keep _ (by simp only [seg, line, List.drop, List.take]; decide), seg0_v0]

/-- The steering values. -/
theorem steer_value (X : FVec Ideal S64x6146x204 .f32) (h : V (Proc.devRef .tc main_v0) = kept X) :
    after (seg 44 14) V (Proc.devRef .tc main_v37) = control (tokens (steerRows X)) := by
  rw [after_seg 44 1 13, after_seg 45 5 8, after_seg 50 2 6, seg52_v37, seg50_v33, seg45_v31, seg44_v30, h]
  rfl

/-- The first result, from the acceleration's mean and the steering values. -/
theorem steer_loss : after (seg 58 19) V (Proc.devRef .tc main_v51)
    = addf (V (Proc.devRef .tc main_v29) : FVec Ideal S_ .f32) (mean (smooth (V (Proc.devRef .tc main_v37))
        (shapeCast S131072 (V (Proc.devRef .tc main_arg2) : FVec Ideal S64x2048 .f32) shapeCasts_S64x2048_S131072))) := by
  rw [after_seg 58 13 6, after_seg 71 1 5, seg72_v51, seg71_v48, seg58_v42, seg58_v45, seg58_v47,
    keep _ (r := main_v29) (by simp only [seg, line, List.drop, List.take]; decide),
    keep _ (r := main_v29) (by simp only [seg, line, List.drop, List.take]; decide)]
  rfl

/-- The log-probabilities of the two reverse classes. -/
theorem rev_logits (X : FVec Ideal S64x6146x204 .f32) (h : V (Proc.devRef .tc main_v0) = kept X) :
    after (seg 77 41) V (Proc.devRef .tc main_v73) = logSoft (logits (softRows (revRows X))) := by
  rw [after_seg 77 15 26, after_seg 92 11 15, seg103_v73, seg92_v72, seg77_v63, h]
  rfl

/-- Where the targets are not ignored. -/
theorem rev_valid : after (seg 118 9) V (Proc.devRef .tc main_v76) = valid (flatTargets (V (Proc.devRef .tc main_arg3))) := by
  rw [after_seg 118 5 4, keep _ (by simp only [seg, line, List.drop, List.take]; decide), seg118_v76]

/-- The targets the log-probabilities are picked by. -/
theorem rev_targets : after (seg 118 9) V (Proc.devRef .tc main_v78)
    = column (safe (flatTargets (V (Proc.devRef .tc main_arg3)))) := by
  rw [after_seg 118 5 4, after_seg 123 3 1, seg126_v78, seg123_v77, seg118_v74, seg118_v76, seg118_c_21]
  rfl

/-- The picked log-probabilities. -/
theorem rev_picked : after (seg 127 22) V (Proc.devRef .tc main_v79)
    = picked (V (Proc.devRef .tc main_v73)) (V (Proc.devRef .tc main_v78)) := by
  rw [after_seg 127 8 14, after_seg 135 8 6, after_seg 143 2 4, seg145_v79, seg143_call7_v12, seg135_call7_v11,
    keep _ (r := main_call7_v5) (i := 143) (by simp only [seg, line, List.drop, List.take]; decide),
    keep _ (r := main_call7_v5) (i := 135) (by simp only [seg, line, List.drop, List.take]; decide),
    keep _ (r := main_v73) (i := 143) (by simp only [seg, line, List.drop, List.take]; decide),
    keep _ (r := main_v73) (i := 135) (by simp only [seg, line, List.drop, List.take]; decide),
    keep _ (r := main_v73) (i := 127) (by simp only [seg, line, List.drop, List.take]; decide), seg127_call7_v5]
  rfl

/-- The line is its first 162 operations. -/
theorem line_eq : line.1 = seg 0 162 := by
  simp only [seg, line, List.drop, List.take]

/-- The line leaves the arguments alone. -/
theorem line_arg (r : Ref sig .tc) (h : r = main_arg0 ∨ r = main_arg1 ∨ r = main_arg2 ∨ r = main_arg3) :
    after line.1 V (Proc.devRef .tc r) = V (Proc.devRef .tc r) := by
  rw [line_eq]
  obtain rfl | rfl | rfl | rfl := h <;>
    exact keep _ (by simp only [seg, line, List.drop, List.take]; decide)

/-- The line's first result. -/
theorem line_loss : after line.1 V (Proc.devRef .tc main_v51)
    = loss (V (Proc.devRef .tc main_arg0)) (V (Proc.devRef .tc main_arg1)) (V (Proc.devRef .tc main_arg2)) := by
  rw [line_eq, after_seg 0 77 85, keep _ (by simp only [seg, line, List.drop, List.take]; decide), after_seg 0 58 19,
    steer_loss, after_seg 0 44 14, steer_value _ _ (kept_rows V),
    keep _ (r := main_v29) (i := 0 + 44) (by simp only [seg, line, List.drop, List.take]; decide),
    keep _ (r := main_arg2) (i := 0 + 44) (by simp only [seg, line, List.drop, List.take]; decide),
    keep _ (r := main_arg2) (i := 0) (by simp only [seg, line, List.drop, List.take]; decide), after_seg 0 26 18,
    acc_loss, acc_value, keep _ (r := main_arg1) (i := 0) (by simp only [seg, line, List.drop, List.take]; decide)]
  rfl

/-- The line's second result. -/
theorem line_reverseLoss : after line.1 V (Proc.devRef .tc main_v89)
    = reverseLoss (V (Proc.devRef .tc main_arg0)) (V (Proc.devRef .tc main_arg3)) := by
  rw [line_eq, after_seg 0 149 13, seg149_v89, after_seg 0 127 22, rev_picked,
    keep _ (r := main_v76) (i := 0 + 127) (by simp only [seg, line, List.drop, List.take]; decide), after_seg 0 118 9,
    rev_targets, rev_valid, keep _ (r := main_v73) (i := 0 + 118) (by simp only [seg, line, List.drop, List.take]; decide),
    keep _ (r := main_arg3) (i := 0) (by simp only [seg, line, List.drop, List.take]; decide), after_seg 0 77 41,
    rev_logits _ (V (Proc.devRef .tc main_arg0)) (by
      rw [after_seg 0 44 33, keep _ (by simp only [seg, line, List.drop, List.take]; decide), kept_rows])]
  rfl

/-- The reference runs, its first result holds `loss` and its second `reverseLoss` of the arguments, and the arguments
    are left alone. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v51)
          = loss (m ((c.tc : Thread nD τ).loc main_arg0)) (m ((c.tc : Thread nD τ).loc main_arg1))
              (m ((c.tc : Thread nD τ).loc main_arg2))
        ∧ r.2.mem ((c.tc : Thread nD τ).loc main_v89)
          = reverseLoss (m ((c.tc : Thread nD τ).loc main_arg0)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3) := by
  refine θ_run_mono (run_hlo _ _ line.2 (by decide) (by decide) (by simp [line]) ?_ m g) fun r hr c => ?_
  · simp only [line]
    intro _ h
    (repeat (cases h with | head => rfl | tail _ h => ?_)); exact nomatch h
  · exact ⟨(hr c _).trans (line_loss _), (hr c _).trans (line_reverseLoss _), (hr c _).trans (line_arg _ _ (.inl rfl)),
      (hr c _).trans (line_arg _ _ (.inr (.inl rfl))), (hr c _).trans (line_arg _ _ (.inr (.inr (.inl rfl)))),
      (hr c _).trans (line_arg _ _ (.inr (.inr (.inr rfl))))⟩

end Cert.Proof.Ref

end
-- ==== Proof.Rows.lean ====
module

public import proofs.«01_k».proof.Proof.RefTerm
public import Idealize.ShloMosaic.Lib.Pipeline.ValueKit
public import Idealize.ShloMosaic.Lib.Pointwise
public import Idealize.ShloMosaic.Lib.WordCmp

/-! What the kernel computes from one row of 204 logits and one target, over the extended reals. -/

@[expose] public section

noncomputable section

namespace Cert.Proof.Row

open Idealize.ShloMosaic

/-- A row's maximum. -/
def top (x : Fin 204 → EReal) : EReal := Finset.univ.fold max (Ideal.ofBits .f32 0xFF800000#32) x

/-- A row's argmax, as the least index whose entry is the maximum. -/
def tok (x : Fin 204 → EReal) : BitVec 32 :=
  Finset.univ.fold IntOp.minsi 2147483647#32 fun k => if x k = top x then BitVec.ofNat 32 (k : ℕ) else 204#32

/-- A token as a control value. -/
def ctl (a : BitVec 32) : EReal :=
  Ideal.div (FloatOps.sitofp (F := Ideal) .f32 a) (Ideal.ofBits .f32 0x42C80000#32) - 1

/-- The absolute value. -/
def mag (x : EReal) : EReal := max x (-x)

/-- The smooth-L1 loss of a prediction against a target. -/
def smooth (p t : EReal) : EReal :=
  if mag (p - t) < 1 then Ideal.ofBits .f32 0x3F000000#32 * (p - t) * (p - t)
  else mag (p - t) - Ideal.ofBits .f32 0x3F000000#32

/-- The probability of the first 101 classes. -/
def no (x : Fin 204 → EReal) : EReal :=
  Ideal.div (∑ k, Ideal.exp (x k - top x) * (if (k : ℕ) < 101 then 1 else 0)) (∑ k, Ideal.exp (x k - top x))

/-- The negative log-likelihood of a target under the two logits `q` and `1 - q`. -/
def nll (g q : EReal) : EReal :=
  (max q (1 - q) + Ideal.log1p (Ideal.exp (0 - mag (q - (1 - q))))) - if g = 0 then q else 1 - q

/-- What one row adds to each of the four sums: the row's channel is `ch`, its target `t`. -/
def part (q : Fin 4) (ch : ℕ) (x : Fin 204 → EReal) (t : EReal) : EReal :=
  if (q : ℕ) = 0 then (if ch = 0 then smooth (mag (ctl (tok x))) t else 0)
  else if (q : ℕ) = 1 then (if ch = 1 then smooth (ctl (tok x)) t else 0)
  else if (q : ℕ) = 2 then (if ch = 2 ∧ t ≠ Ideal.ofBits .f32 0x434B0000#32 then nll t (no x) else 0)
  else if ch = 2 ∧ t ≠ Ideal.ofBits .f32 0x434B0000#32 then 1 else 0

end Cert.Proof.Row

end
-- ==== Proof.Consts.lean ====
module

public import proofs.«01_k».proof.Proof.Rows
public import Idealize.ShloMosaic.Lib.IdealHost

/-! The float constants of the two programs as extended reals. -/

@[expose] public section

noncomputable section

namespace Cert.Proof.Row

open Idealize.ShloMosaic

theorem bits_bot : Ideal.ofBits .f32 0xFF800000#32 = ⊥ := by simp [Ideal.ofBits, Ideal.ieee]

theorem bits_top : Ideal.ofBits .f32 0x7F800000#32 = ⊤ := by simp [Ideal.ofBits, Ideal.ieee]

theorem bits_half : Ideal.ofBits .f32 0x3F000000#32 = ((1 / 2 : ℝ) : EReal) := by
  simp [Ideal.ofBits, Ideal.ieee, -EReal.coe_mul]; norm_num

theorem bits_100 : Ideal.ofBits .f32 0x42C80000#32 = ((100 : ℝ) : EReal) := by
  simp [Ideal.ofBits, Ideal.ieee, -EReal.coe_mul]; norm_num

theorem bits_203 : Ideal.ofBits .f32 0x434B0000#32 = ((203 : ℝ) : EReal) := by
  simp [Ideal.ofBits, Ideal.ieee, -EReal.coe_mul]; norm_num

theorem bits_131072 : Ideal.ofBits .f32 0x48000000#32 = ((131072 : ℝ) : EReal) := by
  simp [Ideal.ofBits, Ideal.ieee, -EReal.coe_mul]; norm_num

/-- A quotient by a positive real. -/
theorem div_real (x : EReal) (r : ℝ) (hr : r ≠ 0) : Ideal.div x (r : EReal) = x * ((r⁻¹ : ℝ) : EReal) := by
  unfold Ideal.div
  rw [if_neg (by exact_mod_cast hr), EReal.coe_inv]

end Cert.Proof.Row

end
-- ==== Proof.Argmax.lean ====
module

public import proofs.«01_k».proof.Proof.Consts

/-! A row's argmax: the reference's fold over (value, index) pairs finds the least index of a maximum, which is
the kernel's minimum over the indices where the maximum is attained. -/

@[expose] public section

noncomputable section

namespace Cert.Proof.Row

open Idealize.ShloMosaic

theorem le_top (x : Fin 204 → EReal) (k : Fin 204) : x k ≤ top x :=
  (Finset.le_fold_max _).mpr (.inr ⟨k, Finset.mem_univ _, le_rfl⟩)

/-- Some entry attains the maximum. -/
theorem exists_top (x : Fin 204 → EReal) : ∃ i, x i = top x := by
  obtain ⟨i, -, hi⟩ := Finset.exists_max_image Finset.univ x Finset.univ_nonempty
  exact ⟨i, le_antisymm (le_top x i) ((Finset.fold_max_le _).mpr ⟨by rw [bits_bot]; exact bot_le, hi⟩)⟩

theorem slt_ofNat {a b : ℕ} (ha : a < 2 ^ 31) (hb : b < 2 ^ 31) :
    (BitVec.ofNat 32 a).slt (BitVec.ofNat 32 b) = decide (a < b) := by
  rw [BitVec.slt, WordCmp.toInt_ofNat_of_lt ha, WordCmp.toInt_ofNat_of_lt hb]
  simp

/-- A minimum of numbers, folded as words. -/
theorem fold_min (g : Fin 204 → ℕ) (hg : ∀ k, g k ≤ 204) (s : Finset (Fin 204)) :
    ∃ v : ℕ, s.fold IntOp.minsi 2147483647#32 (fun k => BitVec.ofNat 32 (g k)) = BitVec.ofNat 32 v ∧ v ≤ 2147483647
      ∧ (∀ k ∈ s, v ≤ g k) ∧ (v = 2147483647 ∨ ∃ k ∈ s, v = g k) := by
  induction s using Finset.induction_on with
  | empty => exact ⟨2147483647, rfl, le_rfl, by simp, .inl rfl⟩
  | insert a s ha ih =>
    obtain ⟨v, h1, h2, h3, h4⟩ := ih
    have hga := hg a
    rw [Finset.fold_insert ha, h1, IntOp.minsi, slt_ofNat (by omega) (by omega)]
    by_cases h : g a < v
    · refine ⟨g a, by simp [h], by omega, fun k hk => ?_, .inr ⟨a, by simp, rfl⟩⟩
      rcases Finset.mem_insert.mp hk with rfl | hk
      · exact le_rfl
      · exact h.le.trans (h3 k hk)
    · refine ⟨v, by simp [h], h2, fun k hk => ?_, h4.imp_right fun ⟨k, hk, e⟩ => ⟨k, by simp [hk], e⟩⟩
      rcases Finset.mem_insert.mp hk with rfl | hk
      · omega
      · exact h3 k hk

/-- `tok` is the least index of a maximum. -/
theorem tok_eq (x : Fin 204 → EReal) (i : Fin 204) (hi : x i = top x) (hmin : ∀ k, x k = top x → i ≤ k) :
    tok x = BitVec.ofNat 32 (i : ℕ) := by
  have e : tok x = Finset.univ.fold IntOp.minsi 2147483647#32 fun k : Fin 204 =>
      BitVec.ofNat 32 (if x k = top x then (k : ℕ) else 204) := by
    unfold tok
    congr 1
    funext k
    split <;> rfl
  obtain ⟨v, h1, h2, h3, h4⟩ := fold_min (fun k => if x k = top x then (k : ℕ) else 204)
    (fun k => by split <;> omega) Finset.univ
  rw [e, h1]
  have hvi := h3 i (Finset.mem_univ _)
  rw [if_pos hi] at hvi
  have := i.isLt
  rcases h4 with h4 | ⟨k, -, hk⟩
  · omega
  · split at hk
    · have := hmin k ‹_›
      rw [show v = (i : ℕ) by have : (i : ℕ) ≤ k := this; omega]
    · omega

/-- One step of the reference's argmax. -/
def step (a b : EReal × BitVec 32) : EReal × BitVec 32 := Cert.ReferenceIdeal.reducer_argmax_f32_i32 (F := Ideal) a b

theorem step_eq (u w : EReal) (i j : ℕ) (hi : i < 204) (hj : j < 204) :
    step (u, BitVec.ofNat 32 i) (w, BitVec.ofNat 32 j)
      = if w < u ∨ (u = w ∧ i < j) then (u, BitVec.ofNat 32 i) else (w, BitVec.ofNat 32 j) := by
  have hs : IntOp.cmpi .slt (BitVec.ofNat 32 i) (BitVec.ofNat 32 j) = BitVec.ofBool (decide (i < j)) := by
    show BitVec.ofBool _ = _
    rw [slt_ofNat (by omega) (by omega)]
  simp only [step, Cert.ReferenceIdeal.reducer_argmax_f32_i32, Ideal.cmpf_def, Ideal.cmp, hs]
  by_cases h1 : w < u
  · by_cases h2 : u = w <;> by_cases h3 : i < j <;> simp [h1, h2, h3, IntOp.ori, IntOp.andi, Scalar.select]
  · by_cases h2 : u = w
    · subst h2
      by_cases h3 : i < j <;> simp [h3, IntOp.ori, IntOp.andi, Scalar.select]
    · simp [h1, h2, IntOp.ori, IntOp.andi, Scalar.select]

/-- The reference's fold over any list of a row's indices: the greatest value, at the least index it is found at. -/
theorem foldl_step (x : Fin 204 → EReal) (l : List (Fin 204)) :
    ∃ (M : EReal) (i : Fin 204), (l.map fun k => (x k, BitVec.ofNat 32 (k : ℕ))).foldl step (⊥, 0#32) = (M, BitVec.ofNat 32 (i : ℕ))
      ∧ (∀ k ∈ l, x k ≤ M) ∧ (∀ k ∈ l, x k = M → i ≤ k) ∧ (x i = M ∨ (M = ⊥ ∧ i = 0)) := by
  induction l using List.reverseRecOn with
  | nil => exact ⟨⊥, 0, rfl, by simp, by simp, .inr ⟨rfl, rfl⟩⟩
  | append_singleton l a ih =>
    obtain ⟨M, i, h1, h2, h3, h4⟩ := ih
    rw [List.map_append, List.foldl_append, h1]
    simp only [List.map_cons, List.map_nil, List.foldl_cons, List.foldl_nil]
    rw [step_eq _ _ _ _ i.isLt a.isLt]
    by_cases h : x a < M ∨ (M = x a ∧ (i : ℕ) < a)
    · rw [if_pos h]
      refine ⟨M, i, rfl, fun k hk => ?_, fun k hk e => ?_, h4⟩
      · rcases List.mem_append.mp hk with hk | hk
        · exact h2 k hk
        · obtain rfl := List.mem_singleton.mp hk
          rcases h with h | h
          · exact h.le
          · exact h.1.ge
      · rcases List.mem_append.mp hk with hk | hk
        · exact h3 k hk e
        · obtain rfl := List.mem_singleton.mp hk
          rcases h with h | h
          · exact absurd e h.ne
          · exact Fin.le_def.mpr h.2.le
    · rw [if_neg h]
      rw [not_or, not_lt, not_and, not_lt] at h
      refine ⟨x a, a, rfl, fun k hk => ?_, fun k hk e => ?_, .inl rfl⟩
      · rcases List.mem_append.mp hk with hk | hk
        · exact (h2 k hk).trans h.1
        · obtain rfl := List.mem_singleton.mp hk
          exact le_rfl
      · rcases List.mem_append.mp hk with hk | hk
        · have hM : M = x a := le_antisymm h.1 (e ▸ h2 k hk)
          exact (Fin.le_def.mpr (h.2 hM)).trans (h3 k hk (e.trans hM.symm))
        · obtain rfl := List.mem_singleton.mp hk
          exact le_rfl

/-- Over a list of all the row's indices that fold's index is `tok`. -/
theorem foldl_step_tok (x : Fin 204 → EReal) (l : List (Fin 204)) (hl : ∀ k, k ∈ l) :
    ((l.map fun k => (x k, BitVec.ofNat 32 (k : ℕ))).foldl step (⊥, 0#32)).2 = tok x := by
  obtain ⟨M, i, h1, h2, h3, h4⟩ := foldl_step x l
  rw [h1]
  obtain ⟨j, hj⟩ := exists_top x
  have hx : x i = M := h4.elim id fun h => le_antisymm (h2 i (hl i)) (h.1 ▸ bot_le)
  have hM : M = top x := le_antisymm (hx ▸ le_top x i) (hj ▸ h2 j (hl j))
  exact (tok_eq x i (hx.trans hM) fun k hk => h3 k (hl k) (hk.trans hM.symm)).symm

end Cert.Proof.Row

end
-- ==== Proof.Sums.lean ====
module

public import Mathlib.Algebra.BigOperators.Fin
public import Mathlib.Data.EReal.Operations

/-! Sums over rows, taken in lanes or three at a time. -/

@[expose] public section

namespace Cert.Proof.Sums

variable {M : Type*} [AddCommMonoid M]

/-- A double sum over blocks is the sum over their rows. -/
theorem sum_blocks (a b : ℕ) (f : ℕ → M) :
    ∑ s ∈ Finset.range a, ∑ l ∈ Finset.range b, f (s * b + l) = ∑ r ∈ Finset.range (a * b), f r := by
  induction a with
  | zero => simp
  | succ a ih => rw [Finset.sum_range_succ, ih, Nat.succ_mul, Finset.sum_range_add]

/-- A batch's rows, in two halves of 24 sublanes by 128 lanes, are its 2048 triples. -/
theorem sum_lanes (f : ℕ → M) :
    ∑ s : Fin 24, ∑ l : Fin 128, (f ((s : ℕ) * 128 + l) + f (3072 + ((s : ℕ) * 128 + l)))
      = ∑ n : Fin 2048, (f ((n : ℕ) * 3) + f ((n : ℕ) * 3 + 1) + f ((n : ℕ) * 3 + 2)) := by
  have e1 : ∀ g : ℕ → M, ∑ s : Fin 24, ∑ l : Fin 128, g ((s : ℕ) * 128 + l) = ∑ r ∈ Finset.range 3072, g r := fun g => by
    rw [← sum_blocks 24 128 g, Finset.sum_range]
    exact Finset.sum_congr rfl fun s _ => (Finset.sum_range fun l => g ((s : ℕ) * 128 + l)).symm
  have e2 : ∑ n : Fin 2048, (f ((n : ℕ) * 3) + f ((n : ℕ) * 3 + 1) + f ((n : ℕ) * 3 + 2)) = ∑ r ∈ Finset.range (3072 + 3072), f r := by
    rw [show 3072 + 3072 = 2048 * 3 from rfl, ← sum_blocks 2048 3 f, Finset.sum_range]
    exact Finset.sum_congr rfl fun n _ => by simp [Finset.sum_range_succ]
  simp only [Finset.sum_add_distrib]
  rw [e1 f, e1 fun r => f (3072 + r), ← Finset.sum_range_add, ← e2]
  simp only [Finset.sum_add_distrib]

/-- The flat positions are the 64 batches of 2048. -/
theorem sum_tiles (f : Fin 131072 → M) :
    ∑ r : Fin 131072, f r = ∑ b : Fin 64, ∑ n : Fin 2048, f ⟨(b : ℕ) * 2048 + n, by omega⟩ := by
  let g : ℕ → M := fun r => if h : r < 131072 then f ⟨r, h⟩ else 0
  have hg : ∀ (r : ℕ) (h : r < 131072), g r = f ⟨r, h⟩ := fun r h => dif_pos h
  calc ∑ r : Fin 131072, f r = ∑ r : Fin 131072, g r := Finset.sum_congr rfl fun r _ => (hg r r.isLt).symm
    _ = ∑ r ∈ Finset.range (64 * 2048), g r := (Finset.sum_range g).symm
    _ = ∑ b : Fin 64, ∑ n : Fin 2048, g ((b : ℕ) * 2048 + n) := by
      rw [← sum_blocks 64 2048 g, Finset.sum_range]
      exact Finset.sum_congr rfl fun b _ => Finset.sum_range fun n => g ((b : ℕ) * 2048 + n)
    _ = _ := Finset.sum_congr rfl fun b _ => Finset.sum_congr rfl fun n _ => hg _ (by omega)

end Cert.Proof.Sums
-- ==== Proof.RefArgmax.lean ====
module

public import proofs.«01_k».proof.Proof.Argmax
public import proofs.«01_k».proof.Proof.Sums

/-! The reference's argmax of a row is the kernel's. -/

@[expose] public section

set_option maxRecDepth 16384

noncomputable section

namespace Cert.Proof.Ref

open Idealize.ShloMosaic Cert.ReferenceIdeal Cert.ReferenceIdeal.Gen

/-- A reduced axis whose indices `f` lists: its fiber's pairs, through a list of all of them. -/
theorem fiber_list {s t : Shape} {axes : List (Fin s.rank)} {α β : Type} {K : ℕ} (h : s.ReducesTo axes t) (j : t.Idx)
    (x : s.Idx → α) (y : s.Idx → β) (f : Fin K → s.Idx) (coord : s.Idx → Fin K) (hf : ∀ i, h.drop i = j → i = f (coord i))
    (hd : ∀ k, h.drop (f k) = j) (hc : ∀ k, coord (f k) = k) :
    ∃ l : List (Fin K), (∀ k, k ∈ l) ∧ Host.argReduceFiber x y h j = l.map fun k => (x (f k), y (f k)) := by
  refine ⟨((List.finRange s.numel).filter fun p => h.drop (s.rowMajor.symm p) = j).map fun p => coord (s.rowMajor.symm p), fun k => ?_, ?_⟩
  · refine List.mem_map.mpr ⟨s.rowMajor (f k), List.mem_filter.mpr ⟨List.mem_finRange _, decide_eq_true ?_⟩, ?_⟩
    · rw [Equiv.symm_apply_apply]
      exact hd k
    · rw [Equiv.symm_apply_apply]
      exact hc k
  · unfold Host.argReduceFiber
    rw [List.map_map]
    refine List.map_congr_left fun p hp => ?_
    have e := hf _ (of_decide_eq_true (List.mem_filter.mp hp).2)
    exact Prod.ext (congrArg x e) (congrArg y e)

/-- An index of the rows' array lies in the fiber of its first two coordinates. -/
theorem drop_row (b : Fin 64) (n : Fin 2048) (k : Fin 204) :
    reducesTo_S64x2048x204_S64x2048_d2.drop (ix3 b n k : S64x2048x204.Idx) = (ix2 b n : S64x2048.Idx) := by
  funext a
  fin_cases a
  · exact Fin.ext (reducesTo_S64x2048x204_S64x2048_d2.drop_apply_val_of_eq _ (0 : Fin 2) (0 : Fin 3))
  · exact Fin.ext (reducesTo_S64x2048x204_S64x2048_d2.drop_apply_val_of_eq _ (1 : Fin 2) (1 : Fin 3))

/-- And in no other. -/
theorem of_drop_row (b : Fin 64) (n : Fin 2048) (i : S64x2048x204.Idx)
    (h : reducesTo_S64x2048x204_S64x2048_d2.drop i = (ix2 b n : S64x2048.Idx)) : i = ix3 b n (i 2) := by
  have h0 := congrArg Fin.val (congrFun h (0 : Fin 2))
  have h1 := congrArg Fin.val (congrFun h (1 : Fin 2))
  rw [reducesTo_S64x2048x204_S64x2048_d2.drop_apply_val_of_eq _ (0 : Fin 2) (0 : Fin 3)] at h0
  rw [reducesTo_S64x2048x204_S64x2048_d2.drop_apply_val_of_eq _ (1 : Fin 2) (1 : Fin 3)] at h1
  funext a
  fin_cases a
  · exact Fin.ext h0
  · exact Fin.ext h1
  · rfl

/-- The pairs of a row of the reference's argmax. -/
theorem fiber_row (Y : FVec Ideal S64x2048x204 .f32) (Z : IVec S64x2048x204 32) (b : Fin 64) (n : Fin 2048) :
    ∃ l : List (Fin 204), (∀ k, k ∈ l) ∧ Host.argReduceFiber Y Z reducesTo_S64x2048x204_S64x2048_d2 (ix2 b n)
      = l.map fun k => (Y (ix3 b n k), Z (ix3 b n k)) :=
  fiber_list reducesTo_S64x2048x204_S64x2048_d2 (ix2 b n) Y Z (fun k : Fin 204 => ix3 b n k) (fun i => i 2)
    (of_drop_row b n) (drop_row b n) (fun _ => rfl)

/-- Such a fold, over any such pairs. -/
theorem argReduce_at {s t u : Shape} {axes : List (Fin s.rank)} (f : EReal × BitVec 32 → EReal × BitVec 32 → EReal × BitVec 32)
    (x : s.Idx → EReal) (y : s.Idx → BitVec 32) (v : u.Idx → EReal) (w : u.Idx → BitVec 32) (h : s.ReducesTo axes t) (hu : 0 < u.numel)
    (j : t.Idx) (l : List (EReal × BitVec 32)) (hl : Host.argReduceFiber x y h j = l) (e : EReal) (k : BitVec 32) (hv : ∀ i, v i = e) (hw : ∀ i, w i = k) :
    Host.argReduce (F := Ideal) (φ := .f32) f x y v w h hu j = l.foldl f (e, k) := by
  rw [Ideal.argReduce_eq_reduce2, Host.reduce2_eq_foldl_fiber, hv, hw, ← hl]

/-- The words the rows' positions are numbered by. -/
theorem iota_at (b : Fin 64) (n : Fin 2048) (k : Fin 204) :
    iotaInDim S64x2048x204 32 2 (ix3 b n k) = BitVec.ofNat 32 (k : ℕ) := by
  pointwise

theorem bot_at (i : S_.Idx) : constant (F := Ideal) S_ .f32 0xFF800000#32 i = (⊥ : EReal) := by
  pointwise
  exact Row.bits_bot

theorem zero_at (i : S_.Idx) : constantI S_ 32 0#32 i = 0#32 := by
  pointwise

/-- The pair the reference's argmax makes of a row. -/
theorem argmax_pair (Y : FVec Ideal S64x2048x204 .f32) (b : Fin 64) (n : Fin 2048) : ∃ l : List (Fin 204), (∀ k, k ∈ l) ∧
    Host.argReduce reducer_argmax_f32_i32 Y (iotaInDim S64x2048x204 32 2) (constant S_ .f32 0xFF800000#32)
      (constantI S_ 32 0#32) reducesTo_S64x2048x204_S64x2048_d2 h_S_ (ix2 b n)
      = (l.map fun k => (Y (ix3 b n k), BitVec.ofNat 32 (k : ℕ))).foldl (reducer_argmax_f32_i32 (F := Ideal)) (⊥, 0#32) := by
  obtain ⟨l, hl, e⟩ := fiber_row Y (iotaInDim S64x2048x204 32 2) b n
  simp only [iota_at] at e
  exact ⟨l, hl, argReduce_at _ _ _ _ _ _ _ _ _ e _ _ bot_at zero_at⟩

/-- The index of a row's argmax. -/
theorem argmaxRows_at (Y : FVec Ideal S64x2048x204 .f32) (b : Fin 64) (n : Fin 2048) :
    argmaxRows Y (ix2 b n) = Row.tok fun k => Y (ix3 b n k) := by
  obtain ⟨l, hl, e⟩ := argmax_pair Y b n
  refine (seconds_at _ _ _ e).trans ?_
  exact Row.foldl_step_tok (fun k => Y (ix3 b n k)) l hl

end Cert.Proof.Ref

end
-- ==== Proof.RefLoss.lean ====
module

public import proofs.«01_k».proof.Proof.RefArgmax
public import proofs.«01_k».proof.Proof.Sums

/-! The reference's first result as sums over the batches and the triples of rows. -/

@[expose] public section

set_option maxRecDepth 16384

noncomputable section

namespace Cert.Proof.Ref

open Idealize.ShloMosaic Cert.ReferenceIdeal Cert.ReferenceIdeal.Gen

/-- Row `r` of batch `b`. -/
def rowOf (X : FVec Ideal S64x6146x204 .f32) (b : Fin 64) (r : Fin 6146) (k : Fin 204) : EReal := X (ix3 b r k)

theorem accRows_at (X : FVec Ideal S64x6146x204 .f32) (b : Fin 64) (n : Fin 2048) (k : Fin 204) :
    accRows X (ix3 b n k) = rowOf X b ⟨3 * (n : ℕ), by omega⟩ k := by
  pointwise [accRows, kept, rowOf]

theorem steerRows_at (X : FVec Ideal S64x6146x204 .f32) (b : Fin 64) (n : Fin 2048) (k : Fin 204) :
    steerRows X (ix3 b n k) = rowOf X b ⟨1 + 3 * (n : ℕ), by omega⟩ k := by
  pointwise [steerRows, kept, rowOf]

theorem revRows_at (X : FVec Ideal S64x6146x204 .f32) (b : Fin 64) (n : Fin 2048) (k : Fin 204) :
    revRows X (ix3 b n k) = rowOf X b ⟨2 + 3 * (n : ℕ), by omega⟩ k := by
  pointwise [revRows, kept, rowOf]

/-- The batch of a flat position. -/
def fst (r : Fin 131072) : Fin 64 := ⟨(r : ℕ) / 2048, by omega⟩

/-- The triple of a flat position. -/
def snd (r : Fin 131072) : Fin 2048 := ⟨(r : ℕ) % 2048, by omega⟩

theorem flat_at {α : Type} (A : S64x2048.Idx → α) (r : Fin 131072) :
    shapeCast S131072 A shapeCasts_S64x2048_S131072 (ix1 r) = A (ix2 (fst r) (snd r)) := by
  pointwise [fst, snd]

theorem tokens_at (Y : FVec Ideal S64x2048x204 .f32) (r : Fin 131072) :
    tokens Y (ix1 r) = FloatOps.sitofp (F := Ideal) .f32 (Row.tok fun k => Y (ix3 (fst r) (snd r) k)) := by
  rw [← argmaxRows_at]
  exact congrArg (FloatOps.sitofp (F := Ideal) .f32) (flat_at (argmaxRows Y) r)

theorem flatConst_at (w : BitVec 32) (r : Fin 131072) : flatConst w (ix1 r) = Ideal.ofBits .f32 w := by
  pointwise [flatConst]

theorem total_at (x : FVec Ideal S131072 .f32) (i : S_.Idx) : total x i = ∑ b : Fin 64, ∑ n : Fin 2048, x (ix1 ⟨(b : ℕ) * 2048 + n, by omega⟩) := by
  pointwise [total]
  exact Sums.sum_tiles (fun r => x (ix1 r))

theorem control_at (t : FVec Ideal S131072 .f32) (r : Fin 131072) :
    control t (ix1 r) = Ideal.div (t (ix1 r)) (Ideal.ofBits .f32 0x42C80000#32) - 1 := by
  pointwise [control, flatConst]

theorem accValue_at (t : FVec Ideal S131072 .f32) (r : Fin 131072) :
    accValue t (ix1 r) = if Ideal.ofBits .f32 0x42C80000#32 < t (ix1 r) then control t (ix1 r) else - control t (ix1 r) := by
  pointwise [accValue, flatConst]

theorem smooth_at (p t : FVec Ideal S131072 .f32) (r : Fin 131072) :
    smooth p t (ix1 r) = Row.smooth (p (ix1 r)) (t (ix1 r)) := by
  pointwise [smooth, flatConst, Row.smooth, Row.mag]
  rfl

end Cert.Proof.Ref

end
-- ==== Proof.KernelBlock.lean ====
module

public import proofs.«01_k».proof.Proof.Gen.KernelIdeal.Frame
public import proofs.«01_k».proof.Proof.Rows

/-! What one grid point of the kernel computes: each entry of its block, from one row of logits and one target. -/

@[expose] public section

set_option maxRecDepth 16384

noncomputable section

namespace Cert.Proof.Ker

open Idealize.ShloMosaic Idealize.ShloMosaic.TcCoe Idealize.SL.Sem
open Cert.KernelIdeal Cert.KernelIdeal.Gen

/-- The row of logits at lane `l` of sublane `s`. -/
def row (X : Vec Ideal S1x3072x204 .f32) (s : Fin 24) (l : Fin 128) (k : Fin 204) : EReal :=
  X (ix3 (0 : Fin 1) (⟨(s : ℕ) * 128 + l, by omega⟩ : Fin 3072) k)

theorem pay4_at (X : Vec Ideal S1x3072x204 .f32) (s : Fin 24) (l : Fin 128) (h : (s : ℕ) * 128 + l < 3072) (k : Fin 204) :
    k0_pay4 (F := Ideal) X (ix2 (⟨(s : ℕ) * 128 + l, h⟩ : Fin 3072) k) = row X s l k := by
  pointwise [k0_pay4, row]

theorem pay6_at (X : Vec Ideal S1x3072x204 .f32) (s : Fin 24) (l : Fin 128) (h : (s : ℕ) * 128 + l < 3072) :
    k0_pay6 (F := Ideal) X (ix2 (⟨(s : ℕ) * 128 + l, h⟩ : Fin 3072) (0 : Fin 1)) = Row.top (row X s l) := by
  pointwise [k0_pay6, k0_pay4, Row.top, row]

/-- The control value of a row. -/
theorem pay7_at (X : Vec Ideal S1x3072x204 .f32) (s : Fin 24) (l : Fin 128) :
    k0_pay7 (F := Ideal) X (ix2 s l) = Row.ctl (Row.tok (row X s l)) := by
  pointwise [k0_pay7]
  simp only [pay4_at, pay6_at]
  rfl

/-- The weights the kernel sums the exponentials by: the first column marks the first 101 classes, the second is 1. -/
def Weights (W : Vec Ideal S204x128 .f32) : Prop :=
  ∀ k : Fin 204, W (ix2 k (0 : Fin 128)) = (if (k : ℕ) < 101 then (1 : EReal) else 0) ∧ W (ix2 k (1 : Fin 128)) = (1 : EReal)

/-- The probability of the first 101 classes of a row. -/
theorem pay8_at (X : Vec Ideal S1x3072x204 .f32) (W : Vec Ideal S204x128 .f32) (hW : Weights W) (s : Fin 24) (l : Fin 128) :
    k0_pay8 (F := Ideal) X W (ix2 s l) = Row.no (row X s l) := by
  pointwise [k0_pay8]
  simp only [pay4_at, pay6_at, (hW _).1, (hW _).2, mul_one]
  rfl

/-- The channel of a lane: its row's number modulo 3. -/
theorem pay10_at (s : Fin 24) (l : Fin 128) :
    k0_pay10 3#32 k0_pay9 (ix2 s l) = BitVec.ofNat 32 (((s : ℕ) * 128 + l) % 3) := by
  pointwise [k0_pay9, k0_pay10]
  revert s l
  decide +kernel

/-- The four parts of a block's entry. -/
theorem pay1_at (X : Vec Ideal S1x3072x204 .f32) (T : Vec Ideal S1x24x128 .f32) (W : Vec Ideal S204x128 .f32)
    (hW : Weights W) (q : Fin 4) (s : Fin 24) (l : Fin 128) :
    k0_pay1 (F := Ideal) (k0_pay10 3#32 k0_pay9) (k0_pay11 (k0_pay5 T) (k0_pay7 X) 3#32 k0_pay9)
        (k0_pay12 (k0_pay5 T) (k0_pay8 X W)) (k0_pay13 (k0_pay5 T) 3#32 k0_pay9) (ix3 q s l)
      = Row.part q (((s : ℕ) * 128 + l) % 3) (row X s l) (T (ix3 (0 : Fin 1) s l)) := by
  pointwise [k0_pay1, k0_pay5, k0_pay11, k0_pay12, k0_pay13]
  simp only [pay7_at, pay8_at X W hW, pay10_at]
  simp only [Ideal.absf_def]
  have hc : ((s : ℕ) * 128 + l) % 3 < 3 := Nat.mod_lt _ (by decide)
  generalize ((s : ℕ) * 128 + l) % 3 = c at hc ⊢
  generalize T (ix3 (0 : Fin 1) s l) = t
  generalize row X s l = x
  have sel1 (x y : EReal) : Scalar.select 1#1 x y = x := rfl
  have sel0 (x y : EReal) : Scalar.select 0#1 x y = y := rfl
  have z : FloatOps.sitofp (F := Ideal) .f32 (0#32) = (0 : EReal) := by
    show (((0#32).toInt : ℝ) : EReal) = 0
    simp
  have o : FloatOps.sitofp (F := Ideal) .f32 (1#32) = (1 : EReal) := by
    show (((1#32).toInt : ℝ) : EReal) = 1
    simp
  have e (n : ℕ) (k : BitVec 32) : IntOp.cmpi .eq (BitVec.ofNat 32 n) k = BitVec.ofBool (decide (BitVec.ofNat 32 n = k)) :=
    WordCmp.cmpi_eq_eq _ _
  interval_cases c <;> fin_cases q <;> by_cases ht : t = Ideal.ofBits .f32 0x434B0000#32 <;>
    simp [Row.part, Row.smooth, Row.mag, Row.nll, e, ht, sel1, sel0, z, o, IntOp.andi]

/-- What the first half of a row block leaves in the accumulator. -/
theorem pay2_at (X : Vec Ideal S1x3072x204 .f32) (T : Vec Ideal S1x24x128 .f32) (W : Vec Ideal S204x128 .f32)
    (hW : Weights W) (q : Fin 4) (s : Fin 24) (l : Fin 128) :
    k0_pay2 (F := Ideal) (k0_pay10 3#32 k0_pay9) (k0_pay11 (k0_pay5 T) (k0_pay7 X) 3#32 k0_pay9)
      (k0_pay12 (k0_pay5 T) (k0_pay8 X W)) (k0_pay13 (k0_pay5 T) 3#32 k0_pay9) (ix4 (0 : Fin 1) q s l)
      = Row.part q (((s : ℕ) * 128 + l) % 3) (row X s l) (T (ix3 (0 : Fin 1) s l)) := by
  rw [← pay1_at X T W hW q s l]
  unfold k0_pay2
  generalize k0_pay1 (F := Ideal) _ _ _ _ = f
  pointwise

/-- What the second half leaves: the accumulator's entry plus its own part. -/
theorem pay3_at (X : Vec Ideal S1x3072x204 .f32) (T : Vec Ideal S1x24x128 .f32) (W : Vec Ideal S204x128 .f32)
    (acc : Vec Ideal S1x4x24x128 .f32) (hW : Weights W) (q : Fin 4) (s : Fin 24) (l : Fin 128) :
    k0_pay3 (F := Ideal) (k0_pay10 3#32 k0_pay9) (k0_pay11 (k0_pay5 T) (k0_pay7 X) 3#32 k0_pay9)
      (k0_pay12 (k0_pay5 T) (k0_pay8 X W)) (k0_pay13 (k0_pay5 T) 3#32 k0_pay9) acc (ix4 (0 : Fin 1) q s l)
      = acc (ix4 (0 : Fin 1) q s l)
        + Row.part q (((s : ℕ) * 128 + l) % 3) (row X s l) (T (ix3 (0 : Fin 1) s l)) := by
  rw [← pay1_at X T W hW q s l]
  unfold k0_pay3
  generalize k0_pay1 (F := Ideal) _ _ _ _ = f
  pointwise

end Cert.Proof.Ker

end
-- ==== Proof.KernelArray.lean ====
module

public import proofs.«01_k».proof.Proof.KernelBlock

/-! What the kernel's result array holds after the launch: at each lane the two halves' parts, added. -/

@[expose] public section

set_option maxRecDepth 16384

noncomputable section

namespace Cert.Proof.Ker

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- Which blocks a grid point reads and writes: batch `t / 2`, half `t % 2`. -/
theorem idx : ∀ t : Fin cfg0.N, win0_0.index t = ![t.val / 2, t.val % 2, 0] ∧ win0_1.index t = ![t.val / 2, t.val % 2, 0]
    ∧ win0_2.index t = ![0, 0] ∧ win0_3.index t = ![t.val / 2, 0, 0, 0] :=
  (by decide +kernel : ∀ t : Fin grid0.N, _)

/-- The weights' words: the first column of a row. -/
theorem word0 : ∀ k : Fin 204, lit0 (S204x128.rowMajor (ix2 k (0 : Fin 128))) = if (k : ℕ) < 101 then 0x3F800000#32 else 0#32 := by
  decide +kernel

/-- The weights' words: the second column of a row. -/
theorem word1 : ∀ k : Fin 204, lit0 (S204x128.rowMajor (ix2 k (1 : Fin 128))) = 0x3F800000#32 := by
  decide +kernel

/-- The entry contents of the weights' window. -/
theorem V_cst (c : Dev nD) (i : S204x128.Idx) :
    (V m c main_cst : Vec Ideal S204x128 .f32) i = Ideal.ofBits .f32 (lit0 (S204x128.rowMajor i)) := by
  show StableHlo.after (List.flatten [hostOps0]) (fun b => m (c, b)) (Proc.devRef .tc main_cst) i = _
  unfold hostOps0
  simp only [List.flatten_cons, List.flatten_nil, List.append_nil]
  after_results
  rfl

/-- The three targets of each row, row after row, laid out in lanes. -/
def stack (A S : Vec Ideal S64x2048 .f32) (G : IVec S64x2048 32) : Vec Ideal S64x48x128 .f32 :=
  shapeCast S64x48x128 (concatenate S64x2048x3 2
    [⟨S64x2048x1, broadcastInDim S64x2048x1 ![0, 1] bcast_S64x2048_S64x2048x1_0_1 A⟩,
     ⟨S64x2048x1, broadcastInDim S64x2048x1 ![0, 1] bcast_S64x2048_S64x2048x1_0_1 S⟩,
     ⟨S64x2048x1, broadcastInDim S64x2048x1 ![0, 1] bcast_S64x2048_S64x2048x1_0_1 (sitofp (F := Ideal) .f32 G)⟩]
    concatenates_S64x2048x1_S64x2048x1_S64x2048x1_S64x2048x3_d2) shapeCasts_S64x2048x3_S64x48x128

/-- The entry contents of the targets' window. -/
theorem V_targets (c : Dev nD) :
    (V m c main_v5 : Vec Ideal S64x48x128 .f32) = stack (m ((c : Thread nD τ).loc main_arg1)) (m ((c : Thread nD τ).loc main_arg2))
      (m ((c : Thread nD τ).loc main_arg3)) := by
  show StableHlo.after (List.flatten [hostOps0]) (fun b => m (c, b)) (Proc.devRef .tc main_v5) = _
  unfold hostOps0
  simp only [List.flatten_cons, List.flatten_nil, List.append_nil]
  after_results
  rfl

/-- The target of row `r`: the row's channel picks the array, `r / 3` the column. -/
def target (A S : Vec Ideal S64x2048 .f32) (G : IVec S64x2048 32) (b : Fin 64) (r : ℕ) : EReal :=
  if r % 3 = 0 then A (ix2 b ⟨r / 3 % 2048, Nat.mod_lt _ (by decide)⟩)
  else if r % 3 = 1 then S (ix2 b ⟨r / 3 % 2048, Nat.mod_lt _ (by decide)⟩)
  else FloatOps.sitofp (F := Ideal) .f32 (G (ix2 b ⟨r / 3 % 2048, Nat.mod_lt _ (by decide)⟩))

theorem stack_at (A S : Vec Ideal S64x2048 .f32) (G : IVec S64x2048 32) (b : Fin 64) (s : Fin 48) (l : Fin 128) :
    stack A S G (ix3 b s l) = target A S G b ((s : ℕ) * 128 + l) := by
  pointwise [stack]
  have h1 : ((b : ℕ) * 6144 + s * 128 + l) % 3 = ((s : ℕ) * 128 + l) % 3 := by omega
  have h2 : ((b : ℕ) * 6144 + s * 128 + l) / 3 % 2048 = ((s : ℕ) * 128 + l) / 3 % 2048 := by omega
  unfold target
  obtain h | h | h : ((s : ℕ) * 128 + l) % 3 = 0 ∨ ((s : ℕ) * 128 + l) % 3 = 1 ∨ ((s : ℕ) * 128 + l) % 3 = 2 := by omega
  · refine (dif_pos (by omega)).trans ?_
    simp only [h2, h, if_true]
  · refine (dif_neg (by omega)).trans ((dif_pos (by omega)).trans ?_)
    simp [h2, h]
  · refine (dif_neg (by omega)).trans ((dif_neg (by omega)).trans ?_)
    simp [h2, h]

/-- A row of the logits' array. -/
def rowOf (X : Vec Ideal S64x6146x204 .f32) (b : Fin 64) (r : Fin 6146) (k : Fin 204) : EReal := X (ix3 b r k)

/-- What half `h` of batch `b` gives the accumulator at part `q`, sublane `s`, lane `l`. -/
def half (X : Vec Ideal S64x6146x204 .f32) (T : Vec Ideal S64x48x128 .f32) (b : Fin 64) (h : Fin 2) (q : Fin 4) (s : Fin 24) (l : Fin 128) : EReal :=
  Row.part q (((s : ℕ) * 128 + l) % 3) (rowOf X b ⟨(h : ℕ) * 3072 + (s * 128 + l), by omega⟩)
    (T (ix3 b (⟨(h : ℕ) * 24 + s, by omega⟩ : Fin 48) l))

theorem weights (c : Dev nD) (t : Fin cfg0.N) : Weights (iblk m c 2 t) := by
  have h : ∀ (k : Fin 204) (j : Fin 128), (iblk m c 2 t : Vec Ideal S204x128 .f32) (ix2 k j) = (V m c main_cst : Vec Ideal S204x128 .f32) (ix2 k j) := fun k j => by
    blk_ext [iblk, idx t]
  intro k
  rw [h, h, V_cst, V_cst, word0, word1]
  refine ⟨?_, Ideal.ofBits_one_f32⟩
  split_ifs
  · exact Ideal.ofBits_one_f32
  · exact Ideal.ofBits_zero_f32

theorem row_at (c : Dev nD) (t : Fin cfg0.N) (s : Fin 24) (l : Fin 128) (b : Fin 64) (h : Fin 2) (hb : t.val / 2 = b) (hh : t.val % 2 = h) :
    row (X0_0 m c t) s l = rowOf (m ((c : Thread nD τ).loc main_arg0)) b ⟨(h : ℕ) * 3072 + (s * 128 + l), by omega⟩ := by
  funext k
  unfold row rowOf X0_0 Pipeline.Window.fill
  rw [dif_pos (moved0_0 t _)]
  refine Eq.trans (b := (V m c main_arg0 : Vec Ideal S64x6146x204 .f32) (ix3 b ⟨(h : ℕ) * 3072 + (s * 128 + l), by omega⟩ k)) ?_ (congrFun (V_main_arg0 m c) _)
  blk_ext [iblk, idx t]

theorem target_at (c : Dev nD) (t : Fin cfg0.N) (s : Fin 24) (l : Fin 128) (b : Fin 64) (h : Fin 2) (hb : t.val / 2 = b) (hh : t.val % 2 = h) :
    (iblk m c 1 t : Vec Ideal S1x24x128 .f32) (ix3 (0 : Fin 1) s l) = (V m c main_v5 : Vec Ideal S64x48x128 .f32) (ix3 b ⟨(h : ℕ) * 24 + s, by omega⟩ l) := by
  blk_ext [iblk, idx t]

theorem outA_at (c : Dev nD) (t : Fin cfg0.N) (h0 : t.val % 2 = 0) (q : Fin 4) (s : Fin 24) (l : Fin 128) :
    outsAt0 m c t.val t.isLt (ix4 (0 : Fin 1) q s l)
      = Row.part q (((s : ℕ) * 128 + l) % 3) (row (X0_0 m c t) s l) ((iblk m c 1 t : Vec Ideal S1x24x128 .f32) (ix3 (0 : Fin 1) s l)) := by
  rw [outsAt0_A m c t h0 (by omega)]
  frame_out
  exact pay2_at _ _ _ (weights m c t) q s l

theorem outB_at (c : Dev nD) (t : Fin cfg0.N) (h1 : t.val % 2 = 1) (q : Fin 4) (s : Fin 24) (l : Fin 128) :
    outsAt0 m c t.val t.isLt (ix4 (0 : Fin 1) q s l)
      = outsAt0 m c (t.val - 1) (Nat.lt_of_le_of_lt (Nat.sub_le _ _) t.isLt) (ix4 (0 : Fin 1) q s l)
        + Row.part q (((s : ℕ) * 128 + l) % 3) (row (X0_0 m c t) s l) ((iblk m c 1 t : Vec Ideal S1x24x128 .f32) (ix3 (0 : Fin 1) s l)) := by
  rw [outsAt0_B m c t (by omega) h1]
  frame_out
  exact pay3_at _ _ _ _ (weights m c t) q s l

/-- The result array: at each part, sublane and lane, the first half's part plus the second's. -/
theorem final (c : Dev nD) :
    (dats m 0 c).arrAt 3 (cfgs 0).N = fun i : S64x4x24x128.Idx =>
      half (m ((c : Thread nD τ).loc main_arg0)) (V m c main_v5) (i 0) 0 (i 1) (i 2) (i 3)
        + half (m ((c : Thread nD τ).loc main_arg0)) (V m c main_v5) (i 0) 1 (i 1) (i 2) (i 3) := by
  refine (dats m 0 c).arrAt_eq_of_covers 3 _ (by decide +kernel) fun t hf y => ?_
  have h1 : t.val % 2 = 1 := (flush0_3 t).mp hf
  blk_simp
  have ht : t.val < 128 := lt_of_lt_of_eq t.isLt N_0
  obtain ⟨b, hb⟩ : ∃ b : Fin 64, t.val / 2 = b := ⟨⟨t.val / 2, by omega⟩, rfl⟩
  have hy : ∀ y : S1x4x24x128.Idx, ∃ (q : Fin 4) (s : Fin 24) (l : Fin 128), y = ix4 (0 : Fin 1) q s l := fun y =>
    ⟨y 1, y 2, y 3, (eq_ix4 y).trans (congrArg (fun z : Fin 1 => ix4 z _ _ _) (Subsingleton.elim (α := Fin 1) _ _))⟩
  obtain ⟨q, s, l, rfl⟩ := hy y
  have hlt : t.val - 1 < cfg0.N := lt_of_le_of_lt (Nat.sub_le _ _) t.isLt
  rw [show (win0_3.blk t).view.emb (ix4 (0 : Fin 1) q s l : S1x4x24x128.Idx) = (ix4 b q s l : S64x4x24x128.Idx) from by
    blk_ext [idx t]]
  rw [after0_3]
  refine (outB_at m c t h1 q s l).trans ?_
  have hA := outA_at m c ⟨t.val - 1, hlt⟩ (by dsimp only; omega) q s l
  dsimp only at hA
  rw [hA]
  rw [row_at m c t s l b 1 hb h1, target_at m c t s l b 1 hb h1, row_at m c ⟨t.val - 1, hlt⟩ s l b 0 (by dsimp only; omega) (by dsimp only; omega),
    target_at m c ⟨t.val - 1, hlt⟩ s l b 0 (by dsimp only; omega) (by dsimp only; omega)]
  rfl

end Cert.Proof.Ker

end
-- ==== Proof.KernelRun.lean ====
module

public import proofs.«01_k».proof.Proof.KernelArray
public import Idealize.ShloMosaic.Lib.Claim

/-! The kernel's run: the result array's sums over the lanes, and the two results the host lines make of them. -/

@[expose] public section

set_option maxRecDepth 16384

noncomputable section

namespace Cert.Proof.Ker

open Idealize.ShloMosaic Idealize.ShloMosaic.TcCoe Idealize.SL.Sem
open Idealize.ShloMosaic.Pipeline (Dat)
open Cert.KernelIdeal Cert.KernelIdeal.Gen

/-- The four sums over batches and lanes. -/
def sums (Y : Vec Ideal S64x4x24x128 .f32) : Vec Ideal S4 .f32 :=
  Host.reduceAdd (F := Ideal) (φ := .f32) Y (constant S_ .f32 0x00000000#32) reducesTo_S64x4x24x128_S4_d0_2_3 h_S_

/-- The first result of the host lines. -/
def tail1 (Y : Vec Ideal S64x4x24x128 .f32) : Vec Ideal S_ .f32 :=
  Host.divf (F := Ideal) (addf (shapeCast S_ (extractStridedSlice S1 ![0] (sums Y) slices_S4_S1_0) shapeCasts_S1_S_)
    (shapeCast S_ (extractStridedSlice S1 ![1] (sums Y) slices_S4_S1_1) shapeCasts_S1_S_)) (constant S_ .f32 0x48000000#32)

/-- The second result of the host lines. -/
def tail2 (Y : Vec Ideal S64x4x24x128 .f32) : Vec Ideal S_ .f32 :=
  Host.divf (F := Ideal) (shapeCast S_ (extractStridedSlice S1 ![2] (sums Y) slices_S4_S1_2) shapeCasts_S1_S_)
    (maximumf (shapeCast S_ (extractStridedSlice S1 ![3] (sums Y) slices_S4_S1_3) shapeCasts_S1_S_) (constant S_ .f32 0x3F800000#32))

theorem sums_at (Y : Vec Ideal S64x4x24x128 .f32) (q : Fin 4) :
    sums Y (ix1 q) = ∑ b : Fin 64, ∑ s : Fin 24, ∑ l : Fin 128, Y (ix4 b q s l) := by
  have hd : ∀ (b : Fin 64) (q' : Fin 4) (s : Fin 24) (l : Fin 128),
      (reducesTo_S64x4x24x128_S4_d0_2_3.drop (ix4 b q' s l : S64x4x24x128.Idx) = (ix1 q : S4.Idx)) ↔ q' = q := fun b q' s l => by
    constructor
    · intro h
      have e := congrArg Fin.val (congrFun h (0 : Fin 1))
      rw [reducesTo_S64x4x24x128_S4_d0_2_3.drop_apply_val_of_eq _ (0 : Fin 1) (1 : Fin 4)] at e
      exact Fin.ext e
    · rintro rfl
      funext a
      obtain rfl : a = (0 : Fin 1) := Subsingleton.elim (α := Fin 1) _ _
      exact Fin.ext (reducesTo_S64x4x24x128_S4_d0_2_3.drop_apply_val_of_eq _ (0 : Fin 1) (1 : Fin 4))
  pointwise [sums]
  unfold Ideal.hostReduceAdd
  rw [zero_add, Finset.sum_filter]
  refine (sum_idx4 _).trans ?_
  refine Finset.sum_congr rfl fun b _ => ?_
  simp only [hd]
  rw [Finset.sum_eq_single q (fun q' _ h => by simp [h]) (by simp)]
  simp

theorem tail1_at (Y : Vec Ideal S64x4x24x128 .f32) (i : S_.Idx) :
    tail1 Y i = Ideal.div (sums Y (ix1 (0 : Fin 4)) + sums Y (ix1 (1 : Fin 4))) (Ideal.ofBits .f32 0x48000000#32) := by
  unfold tail1
  generalize sums Y = f
  pointwise

theorem tail2_at (Y : Vec Ideal S64x4x24x128 .f32) (i : S_.Idx) :
    tail2 Y i = Ideal.div (sums Y (ix1 (2 : Fin 4))) (max (sums Y (ix1 (3 : Fin 4))) 1) := by
  unfold tail2
  generalize sums Y = f
  pointwise

variable (Z : Valuation τ sig (Elt Ideal))

theorem after_v13 : StableHlo.after (List.flatten [hostOps1]) Z (Proc.devRef .tc main_v13) = tail1 (Z (Proc.devRef .tc main_v6)) := by
  unfold hostOps1
  simp only [List.flatten_cons, List.flatten_nil, List.append_nil]
  after_results
  rfl

theorem after_v19 : StableHlo.after (List.flatten [hostOps1]) Z (Proc.devRef .tc main_v19) = tail2 (Z (Proc.devRef .tc main_v6)) := by
  unfold hostOps1
  simp only [List.flatten_cons, List.flatten_nil, List.append_nil]
  after_results
  rfl

variable (m : (ℓ : Loc nD τ sig) → Buf (Elt Ideal) ℓ) (g : Dev nD → PrngReg)

/-- What the kernel leaves in its result array, as a function of the program's arguments. -/
def lanes (X : Vec Ideal S64x6146x204 .f32) (A S : Vec Ideal S64x2048 .f32) (G : IVec S64x2048 32) : Vec Ideal S64x4x24x128 .f32 :=
  fun i => half X (stack A S G) (i 0) 0 (i 1) (i 2) (i 3) + half X (stack A S G) (i 0) 1 (i 1) (i 2) (i 3)

theorem final_lanes (c : Dev nD) : (dats m 0 c).arrAt 3 (cfgs 0).N = lanes (m ((c.tc : Thread nD τ).loc main_arg0))
    (m ((c.tc : Thread nD τ).loc main_arg1)) (m ((c.tc : Thread nD τ).loc main_arg2)) (m ((c.tc : Thread nD τ).loc main_arg3)) := by
  rw [final, V_targets]
  rfl

theorem run : θ_run (defs (F := Ideal)) (onTc (τ := τ) (main (F := Ideal))) ⟨m, fun _ => 0, g⟩ fun r => ∀ c : Dev nD,
      r.2.mem ((c.tc : Thread nD τ).loc main_v13)
          = tail1 (lanes (m ((c.tc : Thread nD τ).loc main_arg0)) (m ((c.tc : Thread nD τ).loc main_arg1))
              (m ((c.tc : Thread nD τ).loc main_arg2)) (m ((c.tc : Thread nD τ).loc main_arg3)))
        ∧ r.2.mem ((c.tc : Thread nD τ).loc main_v19)
          = tail2 (lanes (m ((c.tc : Thread nD τ).loc main_arg0)) (m ((c.tc : Thread nD τ).loc main_arg1))
              (m ((c.tc : Thread nD τ).loc main_arg2)) (m ((c.tc : Thread nD τ).loc main_arg3)))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3) := by
  refine (θ_run _ _ _).mono (fun r h c => ?_) (run_main m g)
  have hv : Pipeline.withArrays (cfgs 0).spec c (V0 m c) (fun w => (dats m 0 c).arrAt w (cfgs 0).N) (Proc.devRef .tc main_v6)
      = lanes (m ((c.tc : Thread nD τ).loc main_arg0)) (m ((c.tc : Thread nD τ).loc main_arg1))
          (m ((c.tc : Thread nD τ).loc main_arg2)) (m ((c.tc : Thread nD τ).loc main_arg3)) :=
    (Pipeline.withArrays_arr (cfgs 0).spec (by decide) c (V0 m c) (fun w => (dats m 0 c).arrAt w (cfgs 0).N) 3).trans (final_lanes m c)
  refine ⟨((h c).2 main_v13 (by decide)).trans ?_, ((h c).2 main_v19 (by decide)).trans ?_,
    (((h c).1 0).trans ((dats m 0 c).arrAt_in 0 rfl _)).trans (V_main_arg0 m c), ((h c).2 main_arg1 (by decide)).trans (W_main_arg1 m (dats m) c),
    ((h c).2 main_arg2 (by decide)).trans (W_main_arg2 m (dats m) c), ((h c).2 main_arg3 (by decide)).trans (W_main_arg3 m (dats m) c)⟩
  · exact (after_v13 _).trans (congrArg tail1 hv)
  · exact (after_v19 _).trans (congrArg tail2 hv)

end Cert.Proof.Ker

end
-- ==== Proof.KernelSums.lean ====
module

public import proofs.«01_k».proof.Proof.KernelRun
public import proofs.«01_k».proof.Proof.Sums
public import proofs.«01_k».proof.Proof.Consts

/-! The kernel's four sums, as sums over the batches and the triples of rows. -/

@[expose] public section

set_option maxRecDepth 16384

noncomputable section

namespace Cert.Proof.Ker

open Idealize.ShloMosaic
open Cert.KernelIdeal Cert.KernelIdeal.Gen

variable (X : Vec Ideal S64x6146x204 .f32) (A S : Vec Ideal S64x2048 .f32) (G : IVec S64x2048 32)

/-- What row `r` of batch `b` adds to sum `q`; nothing past the last row. -/
def rowPart (q : Fin 4) (b : Fin 64) (r : ℕ) : EReal :=
  if h : r < 6146 then Row.part q (r % 3) (rowOf X b ⟨r, h⟩) (target A S G b r) else 0

/-- A half's entry is the part of the row it holds. -/
theorem half_at (b : Fin 64) (h : Fin 2) (q : Fin 4) (s : Fin 24) (l : Fin 128) :
    half X (stack A S G) b h q s l = rowPart X A S G q b ((h : ℕ) * 3072 + ((s : ℕ) * 128 + l)) := by
  unfold half rowPart
  rw [dif_pos (by omega), stack_at]
  have e1 : (((h : ℕ) * 24 + s) * 128 + l) = (h : ℕ) * 3072 + ((s : ℕ) * 128 + l) := by omega
  have e2 : ((s : ℕ) * 128 + l) % 3 = ((h : ℕ) * 3072 + ((s : ℕ) * 128 + l)) % 3 := by omega
  rw [← e2]
  exact congrArg _ (congrArg _ e1)

/-- An entry of the kernel's array is the sum of its two halves' rows. -/
theorem lanes_at (b : Fin 64) (q : Fin 4) (s : Fin 24) (l : Fin 128) :
    lanes X A S G (ix4 b q s l)
      = rowPart X A S G q b ((s : ℕ) * 128 + l) + rowPart X A S G q b (3072 + ((s : ℕ) * 128 + l)) := by
  have h0 := half_at X A S G b 0 q s l
  have h1 := half_at X A S G b 1 q s l
  rw [Fin.val_zero, Nat.zero_mul, Nat.zero_add] at h0
  rw [Fin.val_one, Nat.one_mul] at h1
  rw [← h0, ← h1]
  rfl

/-- A sum of the kernel's is the sum over the triples of their three rows. -/
theorem sums_rows (q : Fin 4) : sums (lanes X A S G) (ix1 q)
    = ∑ b : Fin 64, ∑ n : Fin 2048, (rowPart X A S G q b ((n : ℕ) * 3) + rowPart X A S G q b ((n : ℕ) * 3 + 1)
        + rowPart X A S G q b ((n : ℕ) * 3 + 2)) := by
  rw [sums_at]
  refine Finset.sum_congr rfl fun b _ => ?_
  rw [← Sums.sum_lanes]
  exact Finset.sum_congr rfl fun s _ => Finset.sum_congr rfl fun l _ => lanes_at X A S G b q s l

theorem rowPart_0 (q : Fin 4) (b : Fin 64) (n : Fin 2048) :
    rowPart X A S G q b ((n : ℕ) * 3) = Row.part q 0 (rowOf X b ⟨3 * (n : ℕ), by omega⟩) (A (ix2 b n)) := by
  have e : (⟨(n : ℕ) * 3 / 3 % 2048, by omega⟩ : Fin 2048) = n := Fin.ext (by dsimp only; omega)
  have e' : (n : ℕ) * 3 = 3 * n := Nat.mul_comm _ _
  unfold rowPart target
  rw [dif_pos (by omega), if_pos (by omega), e]
  simp only [e', Nat.mul_mod_right]

theorem rowPart_1 (q : Fin 4) (b : Fin 64) (n : Fin 2048) :
    rowPart X A S G q b ((n : ℕ) * 3 + 1) = Row.part q 1 (rowOf X b ⟨1 + 3 * (n : ℕ), by omega⟩) (S (ix2 b n)) := by
  have e : (⟨((n : ℕ) * 3 + 1) / 3 % 2048, by omega⟩ : Fin 2048) = n := Fin.ext (by dsimp only; omega)
  have e' : (n : ℕ) * 3 + 1 = 1 + 3 * n := by omega
  have e3 : (1 + 3 * (n : ℕ)) % 3 = 1 := by omega
  unfold rowPart target
  rw [dif_pos (by omega), if_neg (by omega), if_pos (by omega), e]
  simp only [e', e3]

theorem rowPart_2 (q : Fin 4) (b : Fin 64) (n : Fin 2048) :
    rowPart X A S G q b ((n : ℕ) * 3 + 2)
      = Row.part q 2 (rowOf X b ⟨2 + 3 * (n : ℕ), by omega⟩) (FloatOps.sitofp (F := Ideal) .f32 (G (ix2 b n))) := by
  have e : (⟨((n : ℕ) * 3 + 2) / 3 % 2048, by omega⟩ : Fin 2048) = n := Fin.ext (by dsimp only; omega)
  have e' : (n : ℕ) * 3 + 2 = 2 + 3 * n := by omega
  have e3 : (2 + 3 * (n : ℕ)) % 3 = 2 := by omega
  unfold rowPart target
  rw [dif_pos (by omega), if_neg (by omega), if_neg (by omega), e]
  simp only [e', e3]

/-- The first sum is that of the acceleration rows' losses. -/
theorem sums_0 : sums (lanes X A S G) (ix1 (0 : Fin 4)) = ∑ b : Fin 64, ∑ n : Fin 2048,
    Row.smooth (Row.mag (Row.ctl (Row.tok (rowOf X b ⟨3 * (n : ℕ), by omega⟩)))) (A (ix2 b n)) := by
  rw [sums_rows]
  refine Finset.sum_congr rfl fun b _ => Finset.sum_congr rfl fun n _ => ?_
  rw [rowPart_0, rowPart_1, rowPart_2]
  simp [Row.part]

/-- The second sum is that of the steering rows' losses. -/
theorem sums_1 : sums (lanes X A S G) (ix1 (1 : Fin 4)) = ∑ b : Fin 64, ∑ n : Fin 2048,
    Row.smooth (Row.ctl (Row.tok (rowOf X b ⟨1 + 3 * (n : ℕ), by omega⟩))) (S (ix2 b n)) := by
  rw [sums_rows]
  refine Finset.sum_congr rfl fun b _ => Finset.sum_congr rfl fun n _ => ?_
  rw [rowPart_0, rowPart_1, rowPart_2]
  simp [Row.part]

/-- The third sum is that of the reverse rows' negative log-likelihoods, over the targets that count. -/
theorem sums_2 : sums (lanes X A S G) (ix1 (2 : Fin 4)) = ∑ b : Fin 64, ∑ n : Fin 2048,
    if FloatOps.sitofp (F := Ideal) .f32 (G (ix2 b n)) ≠ Ideal.ofBits .f32 0x434B0000#32 then
      Row.nll (FloatOps.sitofp (F := Ideal) .f32 (G (ix2 b n))) (Row.no (rowOf X b ⟨2 + 3 * (n : ℕ), by omega⟩)) else 0 := by
  rw [sums_rows]
  refine Finset.sum_congr rfl fun b _ => Finset.sum_congr rfl fun n _ => ?_
  rw [rowPart_0, rowPart_1, rowPart_2]
  simp [Row.part]

/-- The fourth sum counts the targets that count. -/
theorem sums_3 : sums (lanes X A S G) (ix1 (3 : Fin 4)) = ∑ b : Fin 64, ∑ n : Fin 2048,
    if FloatOps.sitofp (F := Ideal) .f32 (G (ix2 b n)) ≠ Ideal.ofBits .f32 0x434B0000#32 then (1 : EReal) else 0 := by
  rw [sums_rows]
  refine Finset.sum_congr rfl fun b _ => Finset.sum_congr rfl fun n _ => ?_
  rw [rowPart_0, rowPart_1, rowPart_2]
  simp [Row.part]

end Cert.Proof.Ker

end
-- ==== Proof.First.lean ====
module

public import proofs.«01_k».proof.Proof.RefLoss
public import proofs.«01_k».proof.Proof.KernelSums

/-! The first result: the kernel's sums, added and divided, are the reference's two means, added. -/

@[expose] public section

set_option maxRecDepth 16384

noncomputable section

namespace Cert.Proof

open Idealize.ShloMosaic

namespace Row

/-- A control value is a real number. -/
theorem ctl_real (a : BitVec 32) : ctl a = (((a.toInt : ℝ) * (100 : ℝ)⁻¹ - 1 : ℝ) : EReal) := by
  unfold ctl
  rw [bits_100, div_real _ _ (by norm_num), EReal.coe_sub, EReal.coe_mul, EReal.coe_one]
  rfl

/-- A control value, negated where its token is at most 100, is its absolute value. -/
theorem acc_eq (a : BitVec 32) :
    (if Ideal.ofBits .f32 0x42C80000#32 < FloatOps.sitofp (F := Ideal) .f32 a then ctl a else - ctl a) = mag (ctl a) := by
  rw [ctl_real, bits_100]
  unfold mag
  rw [← EReal.coe_neg]
  have e : FloatOps.sitofp (F := Ideal) .f32 a = ((a.toInt : ℝ) : EReal) := rfl
  rw [e]
  split_ifs with h
  · have h' : (100 : ℝ) < a.toInt := by exact_mod_cast h
    refine (max_eq_left (EReal.coe_le_coe_iff.mpr ?_)).symm
    linarith
  · have h' : (a.toInt : ℝ) ≤ 100 := by
      refine not_lt.mp fun hc => h ?_
      exact EReal.coe_lt_coe_iff.mpr hc
    refine (max_eq_right (EReal.coe_le_coe_iff.mpr ?_)).symm
    linarith

/-- The smooth-L1 loss is never negative. -/
theorem smooth_nonneg (p t : EReal) : 0 ≤ smooth p t := by
  unfold smooth
  rw [bits_half]
  generalize p - t = d
  split_ifs with h
  · induction d using EReal.rec with
    | bot => exact absurd h (by simp [mag])
    | top => exact absurd h (by simp [mag])
    | coe d =>
      rw [← EReal.coe_mul, ← EReal.coe_mul]
      exact EReal.coe_nonneg.mpr (by nlinarith [mul_self_nonneg d])
  · refine (EReal.sub_nonneg (Or.inr (EReal.coe_ne_top _)) (Or.inr (EReal.coe_ne_bot _))).mpr ?_
    exact le_trans (EReal.coe_le_coe_iff.mpr (by norm_num)) (not_lt.mp h)

end Row

section
open Cert.ReferenceIdeal Cert.ReferenceIdeal.Gen

namespace Ref

/-- The flat position of batch `b` and triple `n`. -/
def flat (b : Fin 64) (n : Fin 2048) : Fin 131072 := ⟨(b : ℕ) * 2048 + n, by omega⟩

theorem fst_flat (b : Fin 64) (n : Fin 2048) : fst (flat b n) = b := Fin.ext (by dsimp only [fst, flat]; omega)

theorem snd_flat (b : Fin 64) (n : Fin 2048) : snd (flat b n) = n := Fin.ext (by dsimp only [snd, flat]; omega)

/-- The control value of a row. -/
theorem control_tokens_at (Y : FVec Ideal S64x2048x204 .f32) (r : Fin 131072) :
    control (tokens Y) (ix1 r) = Row.ctl (Row.tok fun k => Y (ix3 (fst r) (snd r) k)) := by
  rw [control_at, tokens_at]
  rfl

/-- The acceleration's prediction of a row. -/
theorem accValue_tokens_at (Y : FVec Ideal S64x2048x204 .f32) (r : Fin 131072) :
    accValue (tokens Y) (ix1 r) = Row.mag (Row.ctl (Row.tok fun k => Y (ix3 (fst r) (snd r) k))) := by
  rw [accValue_at, control_tokens_at, tokens_at]
  exact Row.acc_eq _

/-- The reference's sum of the acceleration losses. -/
theorem total_acc (X : FVec Ideal S64x6146x204 .f32) (A : FVec Ideal S64x2048 .f32) (i : S_.Idx) :
    total (smooth (accValue (tokens (accRows X))) (shapeCast S131072 A shapeCasts_S64x2048_S131072)) i
      = ∑ b : Fin 64, ∑ n : Fin 2048, Row.smooth (Row.mag (Row.ctl (Row.tok (rowOf X b ⟨3 * (n : ℕ), by omega⟩)))) (A (ix2 b n)) := by
  rw [total_at]
  refine Finset.sum_congr rfl fun b _ => Finset.sum_congr rfl fun n _ => ?_
  rw [show (⟨(b : ℕ) * 2048 + n, by omega⟩ : Fin 131072) = flat b n from rfl, smooth_at, accValue_tokens_at, flat_at, fst_flat, snd_flat]
  simp only [accRows_at]

/-- The reference's sum of the steering losses. -/
theorem total_steer (X : FVec Ideal S64x6146x204 .f32) (S : FVec Ideal S64x2048 .f32) (i : S_.Idx) :
    total (smooth (control (tokens (steerRows X))) (shapeCast S131072 S shapeCasts_S64x2048_S131072)) i
      = ∑ b : Fin 64, ∑ n : Fin 2048, Row.smooth (Row.ctl (Row.tok (rowOf X b ⟨1 + 3 * (n : ℕ), by omega⟩))) (S (ix2 b n)) := by
  rw [total_at]
  refine Finset.sum_congr rfl fun b _ => Finset.sum_congr rfl fun n _ => ?_
  rw [show (⟨(b : ℕ) * 2048 + n, by omega⟩ : Fin 131072) = flat b n from rfl, smooth_at, control_tokens_at, flat_at, fst_flat, snd_flat]
  simp only [steerRows_at]

theorem loss_at (X : FVec Ideal S64x6146x204 .f32) (A S : FVec Ideal S64x2048 .f32) (i : S_.Idx) :
    loss X A S i
      = Ideal.div (total (smooth (accValue (tokens (accRows X))) (shapeCast S131072 A shapeCasts_S64x2048_S131072)) i) (Ideal.ofBits .f32 0x48000000#32)
        + Ideal.div (total (smooth (control (tokens (steerRows X))) (shapeCast S131072 S shapeCasts_S64x2048_S131072)) i) (Ideal.ofBits .f32 0x48000000#32) :=
  rfl

end Ref

end

/-- The first results agree, for all inputs. -/
theorem first (X : FVec Ideal Cert.ReferenceIdeal.S64x6146x204 .f32) (A S : FVec Ideal Cert.ReferenceIdeal.S64x2048 .f32)
    (G : IVec Cert.ReferenceIdeal.S64x2048 32) : Ker.tail1 (Ker.lanes X A S G) = Ref.loss X A S := by
  funext i
  rw [Ker.tail1_at, Ref.loss_at, Ref.total_acc, Ref.total_steer, Ker.sums_0, Ker.sums_1, Row.bits_131072,
    Row.div_real _ _ (by norm_num), Row.div_real _ _ (by norm_num), Row.div_real _ _ (by norm_num)]
  refine EReal.right_distrib_of_nonneg ?_ ?_
  · exact Finset.sum_nonneg fun b _ => Finset.sum_nonneg fun n _ => Row.smooth_nonneg _ _
  · exact Finset.sum_nonneg fun b _ => Finset.sum_nonneg fun n _ => Row.smooth_nonneg _ _

end Cert.Proof

end
-- ==== Proof.RefSoft.lean ====
module

public import proofs.«01_k».proof.Proof.First

/-! The reference's softmax of a row. -/

@[expose] public section

set_option maxRecDepth 16384

noncomputable section

namespace Cert.Proof.Ref

open Idealize.ShloMosaic Cert.ReferenceIdeal Cert.ReferenceIdeal.Gen

theorem reduceMax_at (Y : FVec Ideal S64x2048x204 .f32) (b : Fin 64) (n : Fin 2048) :
    Host.reduce FloatOps.maximumf Y (constant S_ .f32 0xFF800000#32) reducesTo_S64x2048x204_S64x2048_d2 h_S_ (ix2 b n) =
      Finset.univ.fold max (Ideal.ofBits .f32 0xFF800000#32) fun k : Fin 204 => Y (ix3 b n k) := by
  pointwise

/-- The larger of negative infinity and `v` is `v`. -/
theorem maxWith_at (v : FVec Ideal S64x2048 .f32) (i : S64x2048.Idx) :
    maximumf (broadcastInDim S64x2048 ![] bcast_S_S64x2048 (constant S_ .f32 0xFF800000#32)) v i = v i := by
  pointwise
  rw [Row.bits_bot, max_eq_right bot_le]

theorem rowMax_at (Y : FVec Ideal S64x2048x204 .f32) (b : Fin 64) (n : Fin 2048) :
    rowMax Y (ix2 b n) = Row.top fun k => Y (ix3 b n k) := by
  refine (maxWith_at _ _).trans ?_
  rw [reduceMax_at]
  rfl

theorem expRows_at (Y : FVec Ideal S64x2048x204 .f32) (b : Fin 64) (n : Fin 2048) (k : Fin 204) :
    expRows Y (ix3 b n k) = Ideal.exp (Y (ix3 b n k) - rowMax Y (ix2 b n)) := by
  unfold expRows
  generalize rowMax Y = v
  pointwise [along]

theorem softRows_at (Y : FVec Ideal S64x2048x204 .f32) (b : Fin 64) (n : Fin 2048) (k : Fin 204) :
    softRows Y (ix3 b n k) = Ideal.div (expRows Y (ix3 b n k)) (∑ k : Fin 204, expRows Y (ix3 b n k)) := by
  unfold softRows
  generalize expRows Y = v
  pointwise [along]

end Cert.Proof.Ref

end
-- ==== Proof.Pre.lean ====
module

public import proofs.«01_k».proof.Proof.Frames
public import proofs.«01_k».proof.Proof.RefSoft

/-! What the precondition says of a reverse row. -/

@[expose] public section

set_option maxRecDepth 16384

noncomputable section

namespace Cert.Proof

open Idealize.ShloMosaic Cert.Pre_reverse_rows_scored

instance : Facts := preFacts

/-- The predicate, from the maxima of the rows. -/
def scored (v : FVec Ideal S64x2048 .f32) (G : IVec S64x2048 32) : IVec S64x2048 1 :=
  ori (cmpi .eq G (broadcastInDim S64x2048 ![] preFacts.bcast_S_S64x2048 (constantI S_ 32 203#32)))
    (andi (ori (cmpi .eq G (broadcastInDim S64x2048 ![] preFacts.bcast_S_S64x2048 (constantI S_ 32 0#32)))
        (cmpi .eq G (broadcastInDim S64x2048 ![] preFacts.bcast_S_S64x2048 (constantI S_ 32 1#32))))
      (cmpf .olt (Host.absf v) (broadcastInDim S64x2048 ![] preFacts.bcast_S_S64x2048 (constant S_ .f32 0x7F800000#32))))

/-- The maxima of the reverse rows. -/
def tops (X : FVec Ideal S64x6146x204 .f32) : FVec Ideal S64x2048 .f32 :=
  Host.reduce FloatOps.maximumf (Host.slice S64x2048x204 ![0, 2, 0] ![1, 3, 1] X preFacts.slicesBy_S64x6146x204_S64x2048x204_0s1_2s3_0s1)
    (constant S_ .f32 0xFF800000#32) preFacts.reducesTo_S64x2048x204_S64x2048_d2 preFacts.h_S_

theorem fn_eq (X : FVec Ideal S64x6146x204 .f32) (A S : FVec Ideal S64x2048 .f32) (G : IVec S64x2048 32) :
    fn X A S G = scored (tops X) G := rfl

theorem tops_at (X : FVec Ideal S64x6146x204 .f32) (b : Fin 64) (n : Fin 2048) :
    tops X (ix2 b n) = Finset.univ.fold max (Ideal.ofBits .f32 0xFF800000#32) fun k : Fin 204 => X (ix3 b (⟨2 + 3 * (n : ℕ), by omega⟩ : Fin 6146) k) := by
  pointwise [tops]

theorem scored_at (v : FVec Ideal S64x2048 .f32) (G : IVec S64x2048 32) (b : Fin 64) (n : Fin 2048) (h : scored v G (ix2 b n) = 1#1) :
    G (ix2 b n) = 203#32 ∨ (∃ j : Fin 2, G (ix2 b n) = BitVec.ofNat 32 (j : ℕ)) ∧ v (ix2 b n) ≠ ⊥ ∧ v (ix2 b n) ≠ ⊤ := by
  have e : scored v G (ix2 b n) = IntOp.ori (IntOp.cmpi .eq (G (ix2 b n)) 203#32) (IntOp.andi (IntOp.ori (IntOp.cmpi .eq (G (ix2 b n)) 0#32)
      (IntOp.cmpi .eq (G (ix2 b n)) 1#32)) (Ideal.cmp .olt (max (v (ix2 b n)) (-v (ix2 b n))) (Ideal.ofBits .f32 0x7F800000#32))) := by
    pointwise [scored]
    rfl
  rw [e, WordCmp.cmpi_eq_eq, WordCmp.cmpi_eq_eq, WordCmp.cmpi_eq_eq, Row.bits_top] at h
  unfold Ideal.cmp at h
  rw [WordCmp.ori_ofBool, WordCmp.andi_ofBool, WordCmp.ori_ofBool, WordCmp.ofBool_eq_one_iff] at h
  simp only [Bool.or_eq_true, Bool.and_eq_true, decide_eq_true_eq] at h
  refine h.imp id fun hs => ⟨hs.1.elim (fun h0 => ⟨0, h0⟩) (fun h1 => ⟨1, h1⟩), fun hb => ?_, fun ht => ?_⟩
  · exact absurd hs.2 (by rw [hb]; simp)
  · exact absurd hs.2 (by rw [ht]; simp)

/-- Under the precondition a reverse target is the ignored index, or a class whose row of logits has a finite maximum. -/
theorem pre_at (X : FVec Ideal S64x6146x204 .f32) (A S : FVec Ideal S64x2048 .f32) (G : IVec S64x2048 32)
    (h : fn X A S G = fun _ => 1#1) (b : Fin 64) (n : Fin 2048) :
    G (ix2 b n) = 203#32 ∨ (∃ j : Fin 2, G (ix2 b n) = BitVec.ofNat 32 (j : ℕ))
      ∧ Row.top (Ref.rowOf X b ⟨2 + 3 * (n : ℕ), by omega⟩) ≠ ⊥ ∧ Row.top (Ref.rowOf X b ⟨2 + 3 * (n : ℕ), by omega⟩) ≠ ⊤ := by
  rw [fn_eq] at h
  have e := tops_at X b n
  have hs := scored_at (tops X) G b n (congrFun h _)
  rw [e] at hs
  exact hs

end Cert.Proof

end
-- ==== Proof.RefPick.lean ====
module

public import proofs.«01_k».proof.Proof.First

/-! The counted targets, and the entry the reference picks from a row of two. -/

@[expose] public section

set_option maxRecDepth 16384

noncomputable section

namespace Cert.Proof.Ref

open Idealize.ShloMosaic Cert.ReferenceIdeal Cert.ReferenceIdeal.Gen

theorem valid_at (g : IVec S131072 32) (r : Fin 131072) :
    valid g (ix1 r) = if g (ix1 r) = 203#32 then 0#1 else 1#1 := by
  pointwise [valid]
  unfold IntOp.cmpi
  split_ifs with h
  · rw [h]
    rfl
  · rw [show (g (ix1 r) != 203#32) = true from bne_iff_ne.mpr h]
    rfl

theorem safe_at (g : IVec S131072 32) (r : Fin 131072) :
    safe g (ix1 r) = if g (ix1 r) = 203#32 then 0#32 else g (ix1 r) := by
  have h := valid_at g r
  unfold safe
  generalize valid g = v at h ⊢
  pointwise
  rw [h]
  split_ifs <;> rfl

/-- A selection where its condition holds. -/
theorem select_one {s : Shape} {α : Type} (c : IVec s 1) (x y : s.Idx → α) (i : s.Idx) (h : c i = 1#1) : select c x y i = x i := by
  unfold select
  rw [h]
  rfl

/-- A gather along the second axis, one entry of each row: at `(r, j)` the operand's row `r`, at the column the index
    holds there, read signed and kept inside the row. -/
theorem gather_cols {α : Type} {N C B w : ℕ} (hC : 0 < C) (d : GatherDims ⟨2, ![N, C]⟩ ⟨3, ![N, B, 1]⟩ ⟨2, ![N, B]⟩)
    (ho : d.offsetDims = []) (hc : d.collapsedSliceDims = [1]) (hb : d.operandBatchingDims = [0]) (hs : d.startIndicesBatchingDims = [0])
    (hm : d.startIndexMap = [1]) (hv : d.indexVectorDim = 2) (hz : d.sliceSizes = ![1, 1])
    (x : (⟨2, ![N, C]⟩ : Shape).Idx → α) (idx : IVec ⟨3, ![N, B, 1]⟩ w) (r : Fin N) (j : Fin B) :
    Host.gather d x idx (ix2 r j) = x (ix2 r ⟨min (idx (ix3 r j 0)).toInt.toNat (C - 1), by omega⟩) := by
  obtain ⟨_, _, _, _, _, _, _, wf⟩ := d
  simp only at ho hc hb hs hm hv hz
  subst ho hc hb hs hm hv hz
  unfold Host.gather
  refine congrArg x (funext fun a => Fin.ext ?_)
  unfold GatherDims.operandIdx
  have h01 : a = 0 ∨ a = 1 := by
    match a with
    | ⟨0, _⟩ => exact Or.inl rfl
    | ⟨1, _⟩ => exact Or.inr rfl
  rcases h01 with rfl | rfl
  · refine (congrArg₂ (· + ·) (congrArg₂ (· + ·) (GatherDims.start_batching _ _ _ _ (List.mem_singleton.mpr rfl)) ?_)
      (GatherDims.offCoord_eq_zero _ _ _ fun h => ((GatherDims.mem_sKept _ _).mp h).2 (List.mem_singleton.mpr rfl))).trans (b := 0 + (r : ℕ) + 0) (by simp)
    unfold GatherDims.batchCoord
    rw [dif_pos (List.mem_singleton.mpr rfl)]
    rfl
  · refine (congrArg₂ (· + ·) (congrArg₂ (· + ·) ?_ (GatherDims.batchCoord_eq_zero _ _ _ (by simp)))
      (GatherDims.offCoord_eq_zero _ _ _ fun h => ((GatherDims.mem_sKept _ _).mp h).1 (List.mem_singleton.mpr rfl))).trans
      (b := min (idx (ix3 r j 0)).toInt.toNat (C - 1) + 0 + 0) (by simp)
    unfold GatherDims.start
    rw [dif_pos (List.mem_singleton.mpr rfl)]
    refine congrArg₂ min (congrArg (fun i => (idx i).toInt.toNat) (funext fun b => Fin.ext ?_)) rfl
    fin_cases b <;> rfl

theorem wrapped_at (g : IVec S131072 32) (r : Fin 131072) (j : Fin 2) (h : g (ix1 r) = BitVec.ofNat 32 (j : ℕ)) :
    wrapped (column g) (ix3 r (0 : Fin 1) (0 : Fin 1)) = BitVec.ofNat 32 (j : ℕ) := by
  pointwise [wrapped, column]
  rw [h]
  fin_cases j <;> rfl

theorem inRange_at (v : IVec S131072x1x1 32) (r : Fin 131072) (j : Fin 2) (h : v (ix3 r (0 : Fin 1) (0 : Fin 1)) = BitVec.ofNat 32 (j : ℕ)) :
    inRange v (ix2 r (0 : Fin 1)) = 1#1 := by
  pointwise [inRange]
  rw [Finset.univ_unique, Finset.fold_singleton]
  show IntOp.andi (IntOp.andi (IntOp.cmpi .sge (v (ix3 r (0 : Fin 1) (0 : Fin 1))) 0#32) (IntOp.cmpi .sle (v (ix3 r (0 : Fin 1) (0 : Fin 1))) 1#32)) 1#1 = 1#1
  rw [h]
  fin_cases j <;> rfl

/-- Where the index is one of the two classes, the entry picked is that class's. -/
theorem picked_at (Z : FVec Ideal S131072x2 .f32) (g : IVec S131072 32) (r : Fin 131072) (j : Fin 2) (h : g (ix1 r) = BitVec.ofNat 32 (j : ℕ)) :
    picked Z (column g) (ix2 r (0 : Fin 1)) = Z (ix2 r j) := by
  have hw := wrapped_at g r j h
  unfold picked
  generalize wrapped (column g) = w at hw ⊢
  have hr := inRange_at w r j hw
  have hg := gather_cols (by decide) gather_S131072x2_S131072x1x1_S131072x1_n_1_0_0_1_2_11 rfl rfl rfl rfl rfl rfl rfl Z w r (0 : Fin 1)
  refine (select_one _ _ _ _ hr).trans (hg.trans (congrArg (fun k => Z (ix2 r k)) (Fin.ext ?_)))
  show min (w (ix3 r (0 : Fin 1) (0 : Fin 1))).toInt.toNat (2 - 1) = (j : ℕ)
  rw [hw]
  fin_cases j <;> rfl

theorem count_at (g : IVec S131072 32) (i : S_.Idx) : count g i
    = FloatOps.sitofp (F := Ideal) .f32 (IntOp.maxsi (Finset.univ.fold IntOp.addi 0#32 fun r : Fin 131072 => (valid g (ix1 r)).setWidth 32) 1#32) := by
  pointwise [count]

end Cert.Proof.Ref

end
-- ==== Proof.RefLogits.lean ====
module

public import proofs.«01_k».proof.Proof.First

/-! The reference's two probabilities of a row and their log-softmax. -/

@[expose] public section

set_option maxRecDepth 16384

noncomputable section

namespace Cert.Proof.Ref

open Idealize.ShloMosaic Cert.ReferenceIdeal Cert.ReferenceIdeal.Gen

theorem pNo_at (P : FVec Ideal S64x2048x204 .f32) (r : Fin 131072) :
    pNo P (ix1 r) = ∑ k : Fin 101, P (ix3 (fst r) (snd r) ⟨k, by omega⟩) := by
  pointwise [pNo, fst, snd]

theorem pYes_at (P : FVec Ideal S64x2048x204 .f32) (r : Fin 131072) :
    pYes P (ix1 r) = ∑ k : Fin 103, P (ix3 (fst r) (snd r) ⟨101 + k, by omega⟩) := by
  pointwise [pYes, fst, snd]

theorem logits_at (P : FVec Ideal S64x2048x204 .f32) (r : Fin 131072) (j : Fin 2) :
    logits P (ix2 r j) = if j = 0 then pNo P (ix1 r) else pYes P (ix1 r) := by
  unfold logits
  generalize pNo P = u
  generalize pYes P = v
  pointwise [column]
  fin_cases j <;> rfl

theorem shifted_at (Z : FVec Ideal S131072x2 .f32) (r : Fin 131072) (j : Fin 2) :
    shifted Z (ix2 r j) = Z (ix2 r j) - max (Z (ix2 r 0)) (Z (ix2 r 1)) := by
  pointwise [shifted, pair, column, flatConst]
  have e : (Finset.univ : Finset (Fin 2)) = {0, 1} := rfl
  rw [Row.bits_bot, max_eq_right bot_le, e, Finset.fold_insert (by decide), Finset.fold_singleton, max_eq_left (bot_le (a := Z (ix2 r 1)))]

theorem logSoft_at (Z : FVec Ideal S131072x2 .f32) (r : Fin 131072) (j : Fin 2) :
    logSoft Z (ix2 r j) = shifted Z (ix2 r j) - Ideal.log (Ideal.exp (shifted Z (ix2 r 0)) + Ideal.exp (shifted Z (ix2 r 1))) := by
  rw [← Fin.sum_univ_two fun j => Ideal.exp (shifted Z (ix2 r j))]
  unfold logSoft
  generalize shifted Z = v
  pointwise [pair, column]

theorem nll_at (Y : FVec Ideal S64x2048x204 .f32) (g : IVec S131072 32) (r : Fin 131072) :
    nll Y g (ix1 r) = - picked (logSoft (logits (softRows Y))) (column (safe g)) (ix2 r (0 : Fin 1)) := by
  unfold nll
  generalize picked (logSoft (logits (softRows Y))) (column (safe g)) = v
  pointwise

end Cert.Proof.Ref

end
-- ==== Proof.RowMath.lean ====
module

public import proofs.«01_k».proof.Proof.Argmax

/-! A row whose maximum is finite: its two probabilities are real numbers, and their log-likelihoods in the two programs agree. -/

@[expose] public section

noncomputable section

namespace Cert.Proof.Row

open Idealize.ShloMosaic

/-- A sum of real numbers, over the extended reals. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The larger of two real numbers, over the extended reals. -/
theorem coe_max (a b : ℝ) : ((max a b : ℝ) : EReal) = max (a : EReal) (b : EReal) := by
  rcases le_total a b with h | h
  · rw [max_eq_right h, max_eq_right (EReal.coe_le_coe_iff.mpr h)]
  · rw [max_eq_left h, max_eq_left (EReal.coe_le_coe_iff.mpr h)]

/-- The exponentials of such a row, less its maximum, are nonnegative real numbers with a positive sum. -/
theorem exps (x : Fin 204 → EReal) (hb : top x ≠ ⊥) (ht : top x ≠ ⊤) :
    ∃ e : Fin 204 → ℝ, (∀ k, Ideal.exp (x k - top x) = (e k : EReal)) ∧ 0 < ∑ k, e k := by
  lift top x to ℝ using ⟨ht, hb⟩ with M hM
  have h : ∀ k, ∃ r : ℝ, Ideal.exp (x k - (M : EReal)) = (r : EReal) ∧ 0 ≤ r := fun k => by
    have hk : x k ≤ (M : EReal) := hM ▸ le_top x k
    generalize x k = y at hk
    induction y using EReal.rec with
    | bot => exact ⟨0, by simp, le_rfl⟩
    | coe y => exact ⟨Real.exp (y - M), by rw [← EReal.coe_sub]; rfl, (Real.exp_pos _).le⟩
    | top => exact absurd hk (by simp)
  choose e he h0 using h
  refine ⟨e, he, ?_⟩
  obtain ⟨i, hi⟩ := exists_top x
  have h1 : e i = 1 := by
    have := he i
    rw [hi, ← hM, ← EReal.coe_sub, sub_self, Ideal.exp_coe, Real.exp_zero] at this
    exact_mod_cast this.symm
  exact lt_of_lt_of_le (h1 ▸ one_pos) (Finset.single_le_sum (fun k _ => h0 k) (Finset.mem_univ i))

/-- The first 101 classes and the other 103 are all. -/
theorem sum_split (f : Fin 204 → ℝ) : ∑ k, f k = (∑ k : Fin 101, f ⟨k, by omega⟩) + ∑ k : Fin 103, f ⟨101 + k, by omega⟩ :=
  Fin.sum_univ_add (a := 101) (b := 103) f

/-- The three ways the programs sum such a row's probabilities. -/
theorem probabilities (x : Fin 204 → EReal) (hb : top x ≠ ⊥) (ht : top x ≠ ⊤) : ∃ q : ℝ, no x = (q : EReal)
    ∧ ∑ k : Fin 101, Ideal.div (Ideal.exp (x ⟨k, by omega⟩ - top x)) (∑ k, Ideal.exp (x k - top x)) = (q : EReal)
    ∧ ∑ k : Fin 103, Ideal.div (Ideal.exp (x ⟨101 + k, by omega⟩ - top x)) (∑ k, Ideal.exp (x k - top x)) = ((1 - q : ℝ) : EReal) := by
  obtain ⟨e, he, hs⟩ := exps x hb ht
  have e1 : ∑ k : Fin 204, e k * (if (k : ℕ) < 101 then 1 else 0) = ∑ k : Fin 101, e ⟨k, by omega⟩ := by
    rw [sum_split]
    simp
  have ew : ∀ k : Fin 204, (e k : EReal) * (if (k : ℕ) < 101 then 1 else 0) = ((e k * (if (k : ℕ) < 101 then 1 else 0) : ℝ) : EReal) := fun k => by
    split_ifs <;> simp
  have e2 := sum_split e
  have hd : ∀ r : ℝ, Ideal.div (r : EReal) ((∑ k, e k : ℝ) : EReal) = ((r * (∑ k, e k)⁻¹ : ℝ) : EReal) := fun r => by
    rw [div_real _ _ hs.ne', EReal.coe_mul]
  refine ⟨(∑ k : Fin 101, e ⟨k, by omega⟩) * (∑ k, e k)⁻¹, ?_, ?_, ?_⟩
  · unfold no
    simp only [he, ew, sum_coe, hd, e1]
  · simp only [he, sum_coe, hd, Finset.sum_mul]
  · simp only [he, sum_coe, hd, ← Finset.sum_mul]
    refine congrArg _ ?_
    rw [show ∑ k : Fin 103, e ⟨101 + k, by omega⟩ = (∑ k, e k) - ∑ k : Fin 101, e ⟨k, by omega⟩ by rw [e2]; ring, sub_mul,
      mul_inv_cancel₀ hs.ne']

/-- The log of the sum of two exponentials, taken out at the larger. -/
theorem log_two (a b : ℝ) : Real.log (Real.exp (a - max a b) + Real.exp (b - max a b)) = Real.log (1 + Real.exp (-|a - b|)) := by
  rcases le_total a b with h | h
  · rw [max_eq_right h, sub_self, Real.exp_zero, abs_of_nonpos (by linarith), neg_neg, add_comm]
  · rw [max_eq_left h, sub_self, Real.exp_zero, abs_of_nonneg (by linarith), neg_sub]

/-- The negative log-likelihood of class `j` under the logits `q` and `1 - q`, as the log-softmax gives it. -/
theorem nll_eq (q : ℝ) (j : Fin 2) (z : Fin 2 → EReal) (h0 : z 0 = (q : EReal)) (h1 : z 1 = ((1 - q : ℝ) : EReal)) :
    -((z j - max (z 0) (z 1)) - Ideal.log (Ideal.exp (z 0 - max (z 0) (z 1)) + Ideal.exp (z 1 - max (z 0) (z 1))))
      = nll (((j : ℕ) : ℝ) : EReal) (q : EReal) := by
  obtain ⟨r, hz, hr⟩ : ∃ r : ℝ, z j = (r : EReal) ∧ (if (((j : ℕ) : ℝ) : EReal) = 0 then (q : EReal) else ((1 - q : ℝ) : EReal)) = (r : EReal) := by
    fin_cases j
    · exact ⟨q, h0, by simp⟩
    · exact ⟨1 - q, h1, by simp⟩
  have e1 : (1 : EReal) - (q : EReal) = ((1 - q : ℝ) : EReal) := by rw [EReal.coe_sub, EReal.coe_one]
  have em : max (q : EReal) ((1 - q : ℝ) : EReal) = ((max q (1 - q) : ℝ) : EReal) := (coe_max _ _).symm
  have ea : mag ((q : EReal) - ((1 - q : ℝ) : EReal)) = ((|q - (1 - q)| : ℝ) : EReal) := by
    unfold mag
    rw [← EReal.coe_sub, ← EReal.coe_neg, ← coe_max]
    rfl
  unfold nll Ideal.log1p
  rw [e1, hr, hz, h0, h1, em, ea, ← EReal.coe_sub, ← EReal.coe_sub, ← EReal.coe_sub, Ideal.exp_coe, Ideal.exp_coe, ← EReal.coe_add,
    Ideal.log_coe, if_neg (not_le.mpr (by positivity)), ← EReal.coe_sub, ← EReal.coe_neg, ← EReal.coe_zero, ← EReal.coe_sub, Ideal.exp_coe, ← EReal.coe_one,
    ← EReal.coe_add, Ideal.log_coe, if_neg (not_le.mpr (by positivity)), ← EReal.coe_add, ← EReal.coe_sub, log_two, zero_sub]
  refine congrArg _ ?_
  ring

end Cert.Proof.Row

end
-- ==== Proof.Count.lean ====
module

public import proofs.«01_k».proof.Proof.RowMath

/-! Counting one-bit words: as a sum of 32-bit words and as a sum of floats. -/

@[expose] public section

noncomputable section

namespace Cert.Proof.Row

open Idealize.ShloMosaic

/-- The 32-bit sum of fewer than `2 ^ 31` one-bit words does not overflow. -/
theorem fold_count {ι : Type} (s : Finset ι) (v : ι → BitVec 1) (h : s.card < 2 ^ 31) :
    (s.fold IntOp.addi 0#32 fun r => (v r).setWidth 32).toNat = ∑ r ∈ s, (v r).toNat ∧ ∑ r ∈ s, (v r).toNat ≤ s.card := by
  classical
  induction s using Finset.induction_on with
  | empty => simp
  | insert a s ha ih =>
    rw [Finset.card_insert_of_notMem ha] at h
    obtain ⟨i1, i2⟩ := ih (by omega)
    have ha1 : (v a).toNat < 2 := (v a).isLt
    rw [Finset.fold_insert ha, Finset.sum_insert ha, Finset.card_insert_of_notMem ha]
    refine ⟨?_, by omega⟩
    show ((v a).setWidth 32 + _).toNat = _
    rw [BitVec.toNat_add, i1, BitVec.toNat_setWidth]
    omega

/-- The larger of a small word and one, as a float. -/
theorem sitofp_max (w : BitVec 32) (h : w.toNat < 2 ^ 31) :
    FloatOps.sitofp (F := Ideal) .f32 (IntOp.maxsi w 1#32) = max (((w.toNat : ℕ) : ℝ) : EReal) 1 := by
  have hi : w.toInt = w.toNat := BitVec.toInt_eq_toNat_of_lt (by omega)
  have e : (IntOp.maxsi w 1#32).toInt = max (w.toNat : ℤ) 1 := by
    unfold IntOp.maxsi
    rw [← hi]
    have h1 : (1#32).toInt = 1 := rfl
    split_ifs with hc
    all_goals
      simp only [BitVec.slt_eq_decide, BitVec.sle_eq_decide, decide_eq_true_eq, h1] at hc
      omega
  show (((IntOp.maxsi w 1#32).toInt : ℝ) : EReal) = _
  rw [e, ← EReal.coe_one, ← coe_max]
  push_cast
  rfl

/-- The counted words, at least one, as a float: the same count of ones. -/
theorem count_eq {ι : Type} [Fintype ι] (v : ι → BitVec 1) (h : Fintype.card ι < 2 ^ 31) :
    FloatOps.sitofp (F := Ideal) .f32 (IntOp.maxsi (Finset.univ.fold IntOp.addi 0#32 fun r => (v r).setWidth 32) 1#32)
      = max (∑ r, (((v r).toNat : ℝ) : EReal)) 1 := by
  obtain ⟨h1, h2⟩ := fold_count Finset.univ v h
  rw [sitofp_max _ (by rw [h1]; exact lt_of_le_of_lt h2 h), h1, sum_coe, Nat.cast_sum]

/-- A target's float is 203 exactly where the target is. -/
theorem sitofp_203 (w : BitVec 32) : FloatOps.sitofp (F := Ideal) .f32 w = Ideal.ofBits .f32 0x434B0000#32 ↔ w = 203#32 := by
  rw [bits_203]
  show ((w.toInt : ℝ) : EReal) = _ ↔ _
  constructor
  · intro h
    have h' : (w.toInt : ℝ) = 203 := by exact_mod_cast h
    exact BitVec.eq_of_toInt_eq (by rw [show (203#32).toInt = 203 from rfl]; exact_mod_cast h')
  · rintro rfl
    rw [show (203#32).toInt = 203 from rfl]
    norm_num

/-- A class's float. -/
theorem sitofp_class (j : Fin 2) : FloatOps.sitofp (F := Ideal) .f32 (BitVec.ofNat 32 (j : ℕ)) = (((j : ℕ) : ℝ) : EReal) := by
  show (((BitVec.ofNat 32 (j : ℕ)).toInt : ℝ) : EReal) = _
  fin_cases j <;> norm_num

end Cert.Proof.Row

end
-- ==== Proof.Second.lean ====
module

public import proofs.«01_k».proof.Proof.Pre
public import proofs.«01_k».proof.Proof.RefPick
public import proofs.«01_k».proof.Proof.RefLogits
public import proofs.«01_k».proof.Proof.Count

/-! The second result: under the precondition the kernel's quotient is the reference's. -/

@[expose] public section

set_option maxRecDepth 16384

noncomputable section

namespace Cert.Proof

open Idealize.ShloMosaic

section
open Cert.ReferenceIdeal Cert.ReferenceIdeal.Gen

namespace Ref

variable (X : FVec Ideal S64x6146x204 .f32) (G : IVec S64x2048 32)

theorem flatTargets_at (r : Fin 131072) : flatTargets G (ix1 r) = G (ix2 (fst r) (snd r)) := flat_at G r

/-- The reverse row of batch `b` and triple `n`. -/
def rev (b : Fin 64) (n : Fin 2048) : Fin 204 → EReal := rowOf X b ⟨2 + 3 * (n : ℕ), by omega⟩

/-- The softmax of a reverse row. -/
theorem softRows_rev (b : Fin 64) (n : Fin 2048) (k : Fin 204) : softRows (revRows X) (ix3 b n k)
    = Ideal.div (Ideal.exp (rev X b n k - Row.top (rev X b n))) (∑ k, Ideal.exp (rev X b n k - Row.top (rev X b n))) := by
  have e : ∀ k, expRows (revRows X) (ix3 b n k) = Ideal.exp (rev X b n k - Row.top (rev X b n)) := fun k => by
    rw [expRows_at, rowMax_at]
    simp only [revRows_at]
    rfl
  rw [softRows_at, e]
  simp only [e]

theorem logits_no (b : Fin 64) (n : Fin 2048) : logits (softRows (revRows X)) (ix2 (flat b n) 0)
    = ∑ k : Fin 101, Ideal.div (Ideal.exp (rev X b n ⟨k, by omega⟩ - Row.top (rev X b n))) (∑ k, Ideal.exp (rev X b n k - Row.top (rev X b n))) := by
  rw [logits_at, if_pos rfl, pNo_at, fst_flat, snd_flat]
  simp only [softRows_rev]

theorem logits_yes (b : Fin 64) (n : Fin 2048) : logits (softRows (revRows X)) (ix2 (flat b n) 1)
    = ∑ k : Fin 103, Ideal.div (Ideal.exp (rev X b n ⟨101 + k, by omega⟩ - Row.top (rev X b n))) (∑ k, Ideal.exp (rev X b n k - Row.top (rev X b n))) := by
  rw [logits_at, if_neg (by decide), pYes_at, fst_flat, snd_flat]
  simp only [softRows_rev]

/-- A scored row's negative log-likelihood. -/
theorem nll_scored (b : Fin 64) (n : Fin 2048) (j : Fin 2) (hG : G (ix2 b n) = BitVec.ofNat 32 (j : ℕ))
    (hb : Row.top (rev X b n) ≠ ⊥) (ht : Row.top (rev X b n) ≠ ⊤) :
    nll (revRows X) (flatTargets G) (ix1 (flat b n)) = Row.nll (((j : ℕ) : ℝ) : EReal) (Row.no (rev X b n)) := by
  obtain ⟨q, hq, h0, h1⟩ := Row.probabilities (rev X b n) hb ht
  rw [← logits_no] at h0
  rw [← logits_yes] at h1
  have hs : safe (flatTargets G) (ix1 (flat b n)) = BitVec.ofNat 32 (j : ℕ) := by
    rw [safe_at, flatTargets_at, fst_flat, snd_flat, hG]
    fin_cases j <;> rfl
  rw [nll_at, picked_at _ _ _ _ hs, logSoft_at, shifted_at, shifted_at, shifted_at, hq]
  exact Row.nll_eq q j (fun j => logits (softRows (revRows X)) (ix2 (flat b n) j)) h0 h1

/-- The weight of a flat target as a float. -/
theorem weight_at (b : Fin 64) (n : Fin 2048) : (((valid (flatTargets G) (ix1 (flat b n))).toNat : ℝ) : EReal)
    = if G (ix2 b n) = 203#32 then 0 else 1 := by
  rw [valid_at, flatTargets_at, fst_flat, snd_flat]
  split_ifs <;> simp

theorem weighted_at (x : FVec Ideal S131072 .f32) (g : IVec S131072 1) (r : Fin 131072) :
    mulf x (uitofp .f32 g) (ix1 r) = x (ix1 r) * (((g (ix1 r)).toNat : ℝ) : EReal) := rfl

theorem reverseLoss_at (i : S_.Idx) : reverseLoss X G i
    = Ideal.div (total (mulf (nll (revRows X) (flatTargets G)) (uitofp .f32 (valid (flatTargets G)))) i) (count (flatTargets G) i) := rfl

/-- The number of targets that count, at least one. -/
theorem count_targets (i : S_.Idx) : count (flatTargets G) i
    = max (∑ b : Fin 64, ∑ n : Fin 2048, if G (ix2 b n) = 203#32 then (0 : EReal) else 1) 1 := by
  rw [count_at, Row.count_eq _ (by rw [Fintype.card_fin]; decide), Sums.sum_tiles]
  simp only [← weight_at]
  rfl

end Ref

end

open Cert.ReferenceIdeal in
/-- The second results agree where the precondition holds. -/
theorem second (X : FVec Ideal S64x6146x204 .f32) (A S : FVec Ideal S64x2048 .f32) (G : IVec S64x2048 32)
    (h : Cert.Pre_reverse_rows_scored.fn X A S G = fun _ => 1#1) :
    Ker.tail2 (Ker.lanes X A S G) = Ref.reverseLoss X G := by
  funext i
  rw [Ker.tail2_at, Ref.reverseLoss_at, Ker.sums_2, Ker.sums_3, Ref.count_targets, Ref.total_at]
  refine congrArg₂ Ideal.div ?_ (congrArg (max · 1) ?_)
  · refine Finset.sum_congr rfl fun b _ => Finset.sum_congr rfl fun n _ => ?_
    refine Eq.trans ?_ (Ref.weighted_at _ _ (Ref.flat b n)).symm
    rw [Ref.weight_at]
    rcases pre_at X A S G h b n with hG | ⟨⟨j, hG⟩, hb, ht⟩
    · rw [if_pos hG, if_neg (not_not.mpr ((Row.sitofp_203 _).mpr hG)), mul_zero]
    · have hn : ¬ G (ix2 b n) = 203#32 := by
        rw [hG]
        fin_cases j <;> decide
      rw [if_neg hn, if_pos (fun hc => hn ((Row.sitofp_203 _).mp hc)), mul_one, Ref.nll_scored X G b n j hG hb ht, hG, Row.sitofp_class]
      rfl
  · refine Finset.sum_congr rfl fun b _ => Finset.sum_congr rfl fun n _ => ?_
    simp only [ne_eq, Row.sitofp_203]
    split_ifs <;> rfl

end Cert.Proof

end
-- ==== Proof.Algebraic.lean ====
module

public import proofs.«01_k».proof.Proof.RefRun
public import proofs.«01_k».proof.Proof.Second

/-! The value claim: from the same arguments the two programs end with the same two results. -/

@[expose] public section

noncomputable section

namespace Cert.Proof

open Idealize.ShloMosaic Idealize.SL.Sem

/-- Where the precondition holds, both programs run and end with the same two results. -/
theorem algebraic : @Cert.algebraic_KernelIdeal_ReferenceIdeal_pre_reverse_rows_scored Cert.KernelIdeal.Gen.facts
    Cert.ReferenceIdeal.Gen.facts preFacts := by
  intro m g m' g' hpre hagree
  refine ⟨_, _, Ker.run m g, (θ_run _ _ _).mono (fun r h c => ?_) (Ref.run m' g')⟩
  obtain ⟨h0, h1, h2, h3⟩ := hagree c
  obtain ⟨r0, r1, r2⟩ := h c
  refine ⟨r0.trans ?_, r1.trans ?_, r2⟩
  · rw [h0, h1, h2]
    exact (first _ _ _ _).symm
  · rw [h0, h3]
    exact (second _ _ _ _ (hpre c)).symm

end Cert.Proof

end
-- ==== Proof.lean ====
module

public import proofs.«01_k».proof.Proof.Frames
public import proofs.«01_k».proof.Proof.Algebraic

/-! The claims, assembled: the frames, the kernel's idealization, and the equality of the two programs' results. -/

@[expose] public section

noncomputable section

namespace Cert.Proof

/-- Every claim holds. -/
theorem claim : Cert.Claim := ⟨Cert.Kernel.Gen.facts, Cert.KernelIdeal.Gen.facts, Cert.ReferenceIdeal.Gen.facts, preFacts,
  frame_kernel, frame_kernelIdeal, frame_kernelIdeal_pre, frame_reference, frame_reference_pre, trivial, algebraic⟩

end Cert.Proof

end
